-- ==== Defs.lean ====
def Pre_Kernel (m : (ℓ : Loc Cert.Kernel.nD Cert.Kernel.τ Cert.Kernel.sig) → Buf (Elt Bits) ℓ) : Prop :=
  True

def Pre_Kernel_no_tie_Kernel [hPre_no_tie_Kernel : Cert.Pre_no_tie_Kernel.Facts] (m : (ℓ : Loc Cert.Kernel.nD Cert.Kernel.τ Cert.Kernel.sig) → Buf (Elt Bits) ℓ) : Prop :=
  ∀ c : Dev Cert.Kernel.nD,
    (Cert.Pre_no_tie_Kernel.fn (F := Bits) (m ((c.tc : Thread Cert.Kernel.nD Cert.Kernel.τ).loc Cert.Kernel.main_arg0))) = (fun _ => 1#1)

def Pre_KernelIdeal [hPre_no_tie_Kernel : Cert.Pre_no_tie_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_Kernel.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie_Kernel [hKernel : Cert.Kernel.Facts] [hPre_no_tie_Kernel : Cert.Pre_no_tie_Kernel.Facts] : Prop :=
  ∀ (m : (ℓ : Loc Cert.Kernel.nD Cert.Kernel.τ Cert.Kernel.sig) → Buf (Elt Bits) ℓ) (g : Dev Cert.Kernel.nD → PrngReg), Pre_Kernel_no_tie_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie_Kernel : Cert.Pre_no_tie_Kernel.Facts) (hPre_no_tie_ReferenceIdeal : Cert.Pre_no_tie_ReferenceIdeal.Facts),
    quiescent_Kernel (hKernel := hKernel)
    ∧ quiescent_Kernel_pre_no_tie_Kernel (hKernel := hKernel) (hPre_no_tie_Kernel := hPre_no_tie_Kernel)
    ∧ quiescent_KernelIdeal (hKernelIdeal := hKernelIdeal) (hPre_no_tie_Kernel := hPre_no_tie_Kernel)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Kernel_KernelIdeal
    ∧ algebraic_KernelIdeal_ReferenceIdeal (hKernelIdeal := hKernelIdeal) (hReferenceIdeal := hReferenceIdeal) (hPre_no_tie_Kernel := hPre_no_tie_Kernel)
-- ==== Pre_no_tie_Kernel.lean ====
abbrev S1024x512 : Shape := ⟨2, ![1024, 512]⟩
abbrev S_ : Shape := ⟨0, ![]⟩
abbrev S512 : Shape := ⟨1, ![512]⟩
abbrev S1x512 : Shape := ⟨2, ![1, 512]⟩

class Facts : Prop where
  bitsLt_bf16_f32 : FTy.bits .bf16 < FTy.bits .f32
  reducesTo_S1024x512_S512_d0 : S1024x512.ReducesTo [0] S512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  natLt_1_32 : 1 < 32
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .bf16) : IVec S_ 1 :=
  let main_v0 : FVec F S1024x512 .f32 := (extf .f32 · bitsLt_bf16_f32) main_arg0
  let main_cst : FVec F S_ .f32 := constant S_ .f32 0xFF800000#32
  let main_v1 : FVec F S512 .f32 := (fun x v => Host.reduce FloatOps.maximumf x v reducesTo_S1024x512_S512_d0 h_S_) main_v0 main_cst
  let main_v2 : FVec F S1x512 .f32 := broadcastInDim S1x512 ![1] bcast_S512_S1x512_1 main_v1
  let main_v3 : FVec F S1024x512 .f32 := broadcastInDim S1024x512 ![0, 1] bcast_S1x512_S1024x512_0_1 main_v2
  let main_v4 : IVec S1024x512 1 := cmpf .oeq main_v0 main_v3
  let main_v5 : IVec S1024x512 32 := (extui 32 · natLt_1_32) main_v4
  let main_c : IVec S_ 32 := constantI S_ 32 0#32
  let main_v6 : IVec S512 32 := (fun x v => Host.reduce IntOp.addi x v reducesTo_S1024x512_S512_d0 h_S_) main_v5 main_c
  let main_c_0 : IVec S_ 32 := constantI S_ 32 1#32
  let main_v7 : IVec S512 32 := broadcastInDim S512 ![] bcast_S_S512 main_c_0
  let main_v8 : IVec S512 1 := cmpi .eq main_v6 main_v7
  let main_c_1 : IVec S_ 1 := constantI S_ 1 1#1
  let main_v9 : IVec S_ 1 := (fun x v => Host.reduce IntOp.andi x v reducesTo_S512_S_d0 h_S_) main_v8 main_c_1
  main_v9
-- ==== Pre_no_tie_ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

class Facts : Prop where
  bitsLt_bf16_f32 : FTy.bits .bf16 < FTy.bits .f32
  reducesTo_S8192x512_S512_d0 : S8192x512.ReducesTo [0] S512
  h_S_ : 0 < S_.numel
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  natLt_1_32 : 1 < 32
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .bf16) : IVec S_ 1 :=
  let main_v0 : FVec F S8192x512 .f32 := (extf .f32 · bitsLt_bf16_f32) main_arg0
  let main_cst : FVec F S_ .f32 := constant S_ .f32 0xFF800000#32
  let main_v1 : FVec F S512 .f32 := (fun x v => Host.reduce FloatOps.maximumf x v reducesTo_S8192x512_S512_d0 h_S_) main_v0 main_cst
  let main_v2 : FVec F S1x512 .f32 := broadcastInDim S1x512 ![1] bcast_S512_S1x512_1 main_v1
  let main_v3 : FVec F S8192x512 .f32 := broadcastInDim S8192x512 ![0, 1] bcast_S1x512_S8192x512_0_1 main_v2
  let main_v4 : IVec S8192x512 1 := cmpf .oeq main_v0 main_v3
  let main_v5 : IVec S8192x512 32 := (extui 32 · natLt_1_32) main_v4
  let main_c : IVec S_ 32 := constantI S_ 32 0#32
  let main_v6 : IVec S512 32 := (fun x v => Host.reduce IntOp.addi x v reducesTo_S8192x512_S512_d0 h_S_) main_v5 main_c
  let main_c_0 : IVec S_ 32 := constantI S_ 32 1#32
  let main_v7 : IVec S512 32 := broadcastInDim S512 ![] bcast_S_S512 main_c_0
  let main_v8 : IVec S512 1 := cmpi .eq main_v6 main_v7
  let main_c_1 : IVec S_ 1 := constantI S_ 1 1#1
  let main_v9 : IVec S_ 1 := (fun x v => Host.reduce IntOp.andi x v reducesTo_S512_S_d0 h_S_) main_v8 main_c_1
  main_v9
-- ==== Kernel.lean ====
abbrev S1024x512 : Shape := ⟨2, ![1024, 512]⟩
abbrev S2x512 : Shape := ⟨2, ![2, 512]⟩
abbrev S4x2x512 : Shape := ⟨3, ![4, 2, 512]⟩
abbrev S_ : Shape := ⟨0, ![]⟩
abbrev S4 : Shape := ⟨1, ![4]⟩
abbrev S512 : Shape := ⟨1, ![512]⟩
abbrev S1x512 : Shape := ⟨2, ![1, 512]⟩
abbrev S1x2x512 : Shape := ⟨3, ![1, 2, 512]⟩
abbrev S1 : Shape := ⟨1, ![1]⟩
abbrev S4x1x512 : Shape := ⟨3, ![4, 1, 512]⟩
abbrev S4x512 : Shape := ⟨2, ![4, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S2x512, .f32⟩
  | .local _ .vmem, ⟨0, _⟩ => ⟨S1024x512, .bf16⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S4x2x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_3 : BitVec 32 := 1#32
  let v8 : BitVec 32 := Scalar.muli v6 c1_i32_3
  let v9 : BitVec 32 := Scalar.addi c0_i32 v8
  v9.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_4 : BitVec 32 := 0#32
  let v10 : BitVec 1 := Scalar.cmpi .ne v3 c0_i32_4
  let v11 : BitVec 32 := Scalar.extui v10
  let c0_i32_5 : BitVec 32 := 0#32
  let v12 : BitVec 1 := Scalar.cmpi .ne v11 c0_i32_5
  v12

def k0_dev2 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c0_i32_65 : BitVec 32 := 0#32
  let v103 : BitVec 32 := Scalar.addi v4 c0_i32_65
  let c1_i32_67 : BitVec 32 := 1#32
  let v104 : BitVec 32 := Scalar.muli v103 c1_i32_67
  let v105 : BitVec 32 := Scalar.addi c0_i32_68 v104
  v105.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v13 : BitVec 1 := Scalar.cmpi .ne v3 c1_i32_6
  let v14 : BitVec 32 := Scalar.extui v13
  let c0_i32_7 : BitVec 32 := 0#32
  let v15 : BitVec 1 := Scalar.cmpi .ne v14 c0_i32_7
  v15

def k0_dev3 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_65 : BitVec 32 := 1#32
  let v103 : BitVec 32 := Scalar.addi v4 c1_i32_65
  let c1_i32_67 : BitVec 32 := 1#32
  let v104 : BitVec 32 := Scalar.muli v103 c1_i32_67
  let v105 : BitVec 32 := Scalar.addi c0_i32_68 v104
  v105.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v16 : BitVec 1 := Scalar.cmpi .ne v3 c2_i32
  let v17 : BitVec 32 := Scalar.extui v16
  let c0_i32_8 : BitVec 32 := 0#32
  let v18 : BitVec 1 := Scalar.cmpi .ne v17 c0_i32_8
  v18

def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_65 : BitVec 32 := 2#32
  let v103 : BitVec 32 := Scalar.addi v4 c2_i32_65
  let c1_i32_67 : BitVec 32 := 1#32
  let v104 : BitVec 32 := Scalar.muli v103 c1_i32_67
  let v105 : BitVec 32 := Scalar.addi c0_i32_68 v104
  v105.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c3_i32 : BitVec 32 := 3#32
  let v19 : BitVec 1 := Scalar.cmpi .ne v3 c3_i32
  let v20 : BitVec 32 := Scalar.extui v19
  let c0_i32_9 : BitVec 32 := 0#32
  let v21 : BitVec 1 := Scalar.cmpi .ne v20 c0_i32_9
  v21

def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_65 : BitVec 32 := 3#32
  let v103 : BitVec 32 := Scalar.addi v4 c3_i32_65
  let c1_i32_67 : BitVec 32 := 1#32
  let v104 : BitVec 32 := Scalar.muli v103 c1_i32_67
  let v105 : BitVec 32 := Scalar.addi c0_i32_68 v104
  v105.toNat
def k0_dev6 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v5 : BitVec 32 := Scalar.addi v2 c4_i32_0
  let c8_i32_1 : BitVec 32 := 8#32
  let v6 : BitVec 32 := Scalar.remsi v5 c8_i32_1
  let c1_i32_15 : BitVec 32 := 1#32
  let v39 : BitVec 32 := Scalar.muli v6 c1_i32_15
  let v40 : BitVec 32 := Scalar.addi c0_i32_16 v39
  v40.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v61 : Index := Scalar.indexCast v3
  let c0_34 : Index := 0#32
  let c0_35 : Index := 0#32
  ![v61.toNat, 0, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_36 : BitVec 32 := 0#32
  let v65 : BitVec 1 := Scalar.cmpi .ne v3 c0_i32_36
  let v66 : BitVec 32 := Scalar.extui v65
  let c0_i32_37 : BitVec 32 := 0#32
  let v67 : BitVec 1 := Scalar.cmpi .ne v66 c0_i32_37
  v67

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  ![v3.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_69 : BitVec 32 := 0#32
  let c0_i32_70 : BitVec 32 := 0#32
  ![v3.toNat, 0, 0]
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c0_i32_65 : BitVec 32 := 0#32
  let v103 : BitVec 32 := Scalar.addi v4 c0_i32_65
  let c1_i32_67 : BitVec 32 := 1#32
  let v104 : BitVec 32 := Scalar.muli v103 c1_i32_67
  let v105 : BitVec 32 := Scalar.addi c0_i32_68 v104
  v105.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_38 : BitVec 32 := 1#32
  let v68 : BitVec 1 := Scalar.cmpi .ne v3 c1_i32_38
  let v69 : BitVec 32 := Scalar.extui v68
  let c0_i32_39 : BitVec 32 := 0#32
  let v70 : BitVec 1 := Scalar.cmpi .ne v69 c0_i32_39
  v70

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  ![v3.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_69 : BitVec 32 := 0#32
  let c0_i32_70 : BitVec 32 := 0#32
  ![v3.toNat, 0, 0]
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_65 : BitVec 32 := 1#32
  let v103 : BitVec 32 := Scalar.addi v4 c1_i32_65
  let c1_i32_67 : BitVec 32 := 1#32
  let v104 : BitVec 32 := Scalar.muli v103 c1_i32_67
  let v105 : BitVec 32 := Scalar.addi c0_i32_68 v104
  v105.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_40 : BitVec 32 := 2#32
  let v71 : BitVec 1 := Scalar.cmpi .ne v3 c2_i32_40
  let v72 : BitVec 32 := Scalar.extui v71
  let c0_i32_41 : BitVec 32 := 0#32
  let v73 : BitVec 1 := Scalar.cmpi .ne v72 c0_i32_41
  v73

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  ![v3.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_69 : BitVec 32 := 0#32
  let c0_i32_70 : BitVec 32 := 0#32
  ![v3.toNat, 0, 0]
def k0_dev9 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c2_i32_65 : BitVec 32 := 2#32
  let v103 : BitVec 32 := Scalar.addi v4 c2_i32_65
  let c1_i32_67 : BitVec 32 := 1#32
  let v104 : BitVec 32 := Scalar.muli v103 c1_i32_67
  let v105 : BitVec 32 := Scalar.addi c0_i32_68 v104
  v105.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c3_i32_42 : BitVec 32 := 3#32
  let v74 : BitVec 1 := Scalar.cmpi .ne v3 c3_i32_42
  let v75 : BitVec 32 := Scalar.extui v74
  let c0_i32_43 : BitVec 32 := 0#32
  let v76 : BitVec 1 := Scalar.cmpi .ne v75 c0_i32_43
  v76

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  ![v3.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_69 : BitVec 32 := 0#32
  let c0_i32_70 : BitVec 32 := 0#32
  ![v3.toNat, 0, 0]
def k0_dev10 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32_65 : BitVec 32 := 3#32
  let v103 : BitVec 32 := Scalar.addi v4 c3_i32_65
  let c1_i32_67 : BitVec 32 := 1#32
  let v104 : BitVec 32 := Scalar.muli v103 c1_i32_67
  let v105 : BitVec 32 := Scalar.addi c0_i32_68 v104
  v105.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .i32⟩
  | .hbm, ⟨2, _⟩ => ⟨S_, .bf16⟩
  | .hbm, ⟨3, _⟩ => ⟨S_, .i32⟩
  | .hbm, ⟨4, _⟩ => ⟨S512, .bf16⟩
  | .hbm, ⟨5, _⟩ => ⟨S512, .i32⟩
  | .hbm, ⟨6, _⟩ => ⟨S512, .f32⟩
  | .hbm, ⟨7, _⟩ => ⟨S_, .bf16⟩
  | .hbm, ⟨8, _⟩ => ⟨S512, .bf16⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.KernelIdeal.Contents.lean ====
/-
# What each buffer of the kernel holds

The mesh has eight devices.  Device `c` pairs with `partner c` (four places away), and the devices of one half of
the mesh form a group of four, in which `c` has place `q c`.  This module states, for each buffer the kernel
touches, the contents it holds at the end of each phase, as a function of the block every device starts from, and
proves that the loads and stores the kernel performs read and produce exactly these contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.ValueLayout
public import Idealize.ShloMosaic.Lib.Tactic

@[expose] public section

noncomputable section

namespace Cert.KernelIdealProof

open Cert.KernelIdeal Cert.KernelIdeal.Gen

open Idealize.ShloMosaic
open Idealize.ShloMosaic.TcCoe

variable {F : FTy → Type} [FloatOps F]

/-! ## Places -/

set_option backward.proofsInPublic true in
/-- The place of device `c` in its group of four. -/
def q (c : Dev nD) : Fin 4 := ⟨c.val % 4, Nat.mod_lt _ (by decide)⟩
set_option backward.proofsInPublic true in
/-- The device of the other group at the same place. -/
def partner (c : Dev nD) : Dev nD := ⟨(c.val + 4) % 8, Nat.mod_lt _ (by decide)⟩
set_option backward.proofsInPublic true in
/-- The device at place `r` of the group of `c`. -/
def zpeer (c : Dev nD) (r : Fin 4) : Dev nD :=
  ⟨(c.val - c.val % 4 + r.val) % 8, Nat.mod_lt _ (by decide)⟩
/-- The four devices `c` talks to: at its own place the partner, elsewhere the group's device at that place. -/
def peer (c : Dev nD) (r : Fin 4) : Dev nD := if r = q c then partner c else zpeer c r

theorem partner_partner (c : Dev nD) : partner (partner c) = c := by revert c; decide
theorem q_partner (c : Dev nD) : q (partner c) = q c := by revert c; decide
theorem zpeer_self (c : Dev nD) : zpeer c (q c) = c := by revert c; decide
theorem q_zpeer (c : Dev nD) (r : Fin 4) : q (zpeer c r) = r := by revert c r; decide
theorem zpeer_zpeer (c : Dev nD) (r s : Fin 4) : zpeer (zpeer c r) s = zpeer c s := by revert c r s; decide
theorem peer_self (c : Dev nD) : peer c (q c) = partner c := if_pos rfl
theorem peer_of_ne {c : Dev nD} {r : Fin 4} (h : r ≠ q c) : peer c r = zpeer c r := if_neg h
theorem q_peer (c : Dev nD) (r : Fin 4) : q (peer c r) = r := by revert c r; decide
theorem peer_peer (c : Dev nD) (r : Fin 4) : peer (peer c r) (q c) = c := by revert c r; decide

/-! ## The buffers -/

abbrev xM : Memref sig .tc .vmem S1024x512 .bf16 := Memref.whole cc0_stg0_0
abbrev oM : Memref sig .tc .vmem S2x512 .f32 := Memref.whole cc0_stg1_0
abbrev partM : Memref sig .tc .vmem S2x512 .f32 := Memref.whole cc0_scratch0
abbrev inM : Memref sig .tc .vmem S2x512 .f32 := Memref.whole cc0_scratch1
abbrev pairM : Memref sig .tc .vmem S2x512 .f32 := Memref.whole cc0_scratch2
abbrev gM : Memref sig .tc .vmem S4x2x512 .f32 := Memref.whole cc0_scratch3

theorem slot_inb (r : Fin 4) : ∀ a, (![r.val, 0, 0] : Fin 3 → Nat) a + S1x2x512.size a ≤ S4x2x512.size a := by
  revert r; decide

abbrev slotR (r : Fin 4) : Rect S4x2x512 := Rect.unit (s := S4x2x512) ![r.val, 0, 0] S1x2x512.size (slot_inb r)

/-- The slot of the gathering buffer for the group's place `r`. -/
abbrev slotM (r : Fin 4) : Memref sig .tc .vmem S2x512 .f32 :=
  (gM.slice (slotR r) (fun _ => rfl)).squeeze S2x512 squeezes_S1x2x512_S2x512

abbrev row0 : Rect S2x512 := Rect.unit (s := S2x512) ![0, 0] S1x512.size inb_S2x512_S1x512_0_0
abbrev row1 : Rect S2x512 := Rect.unit (s := S2x512) ![1, 0] S1x512.size inb_S2x512_S1x512_1_0

/-! ## Contents -/

/-- Two rows, one above the other. -/
def rowsOf (a b : FVec F S1x512 .f32) : FVec F S2x512 .f32 :=
  fun i => if (i 0).val = 0 then a (ix2 (0 : Fin 1) (i 1)) else b (ix2 (0 : Fin 1) (i 1))

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The block of the array device `c` starts from, in its staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s own row of maxima and row of their positions in the whole array. -/
def rv (c : Dev nD) : FVec F S1x512 .f32 := k0_pay6 (k0_pay4 (xstg m ρ c))
def ri (c : Dev nD) : FVec F S1x512 .f32 := k0_pay7 (k0_pay5 c (xstg m ρ c))
/-- The same two rows for the pair of `c` and its partner. -/
def pv (c : Dev nD) : FVec F S1x512 .f32 := k0_pay8 (rv m ρ c) (rv m ρ (partner c))
def pi (c : Dev nD) : FVec F S1x512 .f32 := k0_pay9 (rv m ρ c) (ri m ρ c) (rv m ρ (partner c)) (ri m ρ (partner c))

/-- What `c` sends its partner: its own two rows. -/
def part (c : Dev nD) : FVec F S2x512 .f32 := rowsOf (rv m ρ c) (ri m ρ c)
/-- What `c` sends its group: the pair's two rows. -/
def pairpart (c : Dev nD) : FVec F S2x512 .f32 := rowsOf (pv m ρ c) (pi m ρ c)
/-- What `c` has gathered at the end: slot `r` holds the pair's rows of the group's device at place `r`. -/
def gath (c : Dev nD) : FVec F S4x2x512 .f32 :=
  fun i => pairpart m ρ (zpeer c (i 0)) (ix2 (n0 := 2) (n1 := 512) (i 1) (i 2))
/-- The four gathered rows of maxima, and of positions. -/
def gv (c : Dev nD) : FVec F S4x1x512 .f32 := fun i => pv m ρ (zpeer c (i 0)) (ix2 (0 : Fin 1) (i 2))
def gi (c : Dev nD) : FVec F S4x1x512 .f32 := fun i => pi m ρ (zpeer c (i 0)) (ix2 (0 : Fin 1) (i 2))
/-- The kernel's result on device `c`. -/
def out (c : Dev nD) : FVec F S2x512 .f32 :=
  rowsOf (k0_pay1 (k0_pay12 (gv m ρ c))) (k0_pay2 (k0_pay12 (gv m ρ c)) (gi m ρ c))

/-! ## What the loads read and the stores leave -/

theorem hz2 : (![0, 0] : Fin 2 → Nat) = fun _ => 0 := funext fun a => by fin_cases a <;> rfl

/-- An index of two coordinates from its second and the value of its first. -/
theorem ix2_of_val {n0 n1 : Nat} (x : (⟨2, ![n0, n1]⟩ : Shape).Idx) (a : Fin n0) (h : (x 0).val = a.val) :
    (ix2 a (x 1) : (⟨2, ![n0, n1]⟩ : Shape).Idx) = x := by
  conv_rhs => rw [eq_ix2 x]
  exact congrArg (fun t => (ix2 t (x 1) : (⟨2, ![n0, n1]⟩ : Shape).Idx)) (Fin.ext h.symm)

section Rows
variable (a b : FVec F S1x512 .f32)

omit [FloatOps F] in
theorem row0_emb (i : S1x512.Idx) : (row0.emb i : S2x512.Idx) = ix2 (0 : Fin 2) (i 1) := by
  funext x; apply Fin.ext; rw [Rect.emb_apply]
  match x with
  | ⟨0, _⟩ => show 0 + 1 * (i 0).val = 0; have : (i 0).val < 1 := (i 0).isLt; omega
  | ⟨1, _⟩ => show 0 + 1 * (i 1).val = (i 1).val; omega
omit [FloatOps F] in
theorem row1_emb (i : S1x512.Idx) : (row1.emb i : S2x512.Idx) = ix2 (1 : Fin 2) (i 1) := by
  funext x; apply Fin.ext; rw [Rect.emb_apply]
  match x with
  | ⟨0, _⟩ => show 1 + 1 * (i 0).val = 1; have : (i 0).val < 1 := (i 0).isLt; omega
  | ⟨1, _⟩ => show 0 + 1 * (i 1).val = (i 1).val; omega
omit [FloatOps F] in
theorem ix2_row (i : S1x512.Idx) : (ix2 (0 : Fin 1) (i 1) : S1x512.Idx) = i := by
  exact ix2_of_val i _ (by have : (i 0).val < 1 := (i 0).isLt; show (i 0).val = 0; omega)

omit [FloatOps F] in
/-- The upper row of two rows is the first. -/
theorem rowsOf_row0 : (fun i => rowsOf a b (row0.emb i)) = a := by
  funext i; rw [row0_emb]; exact congrArg a (ix2_row i)
omit [FloatOps F] in
theorem rowsOf_row1 : (fun i => rowsOf a b (row1.emb i)) = b := by
  funext i; rw [row1_emb]; exact congrArg b (ix2_row i)

variable {sp : CoreSpace} (v : View sig .tc sp S2x512 .f32) (f : v.ty.Contents (Elt F))

omit [FloatOps F] in
/-- Storing the upper row, then the lower, is storing the two rows. -/
theorem write_rows :
    (v.slice row1).write (Elt F) ((v.slice row0).write (Elt F) f a Finset.univ) b Finset.univ
      = v.write (Elt F) f (rowsOf a b) Finset.univ := by
  funext i
  by_cases hi : i ∈ v.set
  · obtain ⟨x, -, rfl⟩ := Finset.mem_map.mp hi
    rw [View.write_emb_of_mem (v := v) f _ (Finset.mem_univ x)]
    by_cases hx : (x 0).val = 0
    · have h0 : row0.emb (ix2 (0 : Fin 1) (x 1) : S1x512.Idx) = x := by
        rw [row0_emb]; exact ix2_of_val x (0 : Fin 2) hx
      rw [View.write_of_not_mem]
      · refine (congrArg ((v.slice row0).write (Elt F) f a Finset.univ) (congrArg v.emb h0.symm)).trans
          ((View.write_emb_of_mem (v := v.slice row0) f a (Finset.mem_univ (ix2 (0 : Fin 1) (x 1)))).trans ?_)
        unfold rowsOf; rw [if_pos hx]; rfl
      · rw [View.setOn_univ]
        intro hm
        obtain ⟨y, -, hy⟩ := Finset.mem_map.mp hm
        have := v.emb.injective (hy : v.emb (row1.emb y) = v.emb x)
        rw [row1_emb] at this
        rw [← this] at hx; exact absurd (show (1 : Nat) = 0 from hx) Nat.one_ne_zero
    · have h0 : row1.emb (ix2 (0 : Fin 1) (x 1) : S1x512.Idx) = x := by
        rw [row1_emb]; exact ix2_of_val x (1 : Fin 2) (by have : (x 0).val < 2 := (x 0).isLt; show (x 0).val = 1; omega)
      refine (congrArg ((v.slice row1).write (Elt F) ((v.slice row0).write (Elt F) f a Finset.univ) b Finset.univ) (congrArg v.emb h0.symm)).trans
        ((View.write_emb_of_mem (v := v.slice row1) ((v.slice row0).write (Elt F) f a Finset.univ) b (Finset.mem_univ (ix2 (0 : Fin 1) (x 1)))).trans ?_)
      unfold rowsOf; rw [if_neg hx]; rfl
  · rw [View.write_of_not_mem, View.write_of_not_mem, View.write_of_not_mem]
    · exact hi
    · exact fun h => hi (v.set_slice_subset row0 h)
    · exact fun h => hi (v.set_slice_subset row1 h)

end Rows

/-! ## The slots of the gathering buffer -/

omit [FloatOps F] in
theorem slotR_emb (r : Fin 4) (i : S1x2x512.Idx) : ((slotR r).emb i : S4x2x512.Idx) = ix3 r (i 1) (i 2) := by
  funext x; apply Fin.ext; rw [Rect.emb_apply]
  match x with
  | ⟨0, _⟩ => show r.val + 1 * (i 0).val = r.val; have : (i 0).val < 1 := (i 0).isLt; omega
  | ⟨1, _⟩ => show 0 + 1 * (i 1).val = (i 1).val; omega
  | ⟨2, _⟩ => show 0 + 1 * (i 2).val = (i 2).val; omega

omit [FloatOps F] in
theorem slotM_emb (r : Fin 4) (i : S2x512.Idx) : ((slotM r).view.emb i : S4x2x512.Idx) = ix3 r (i 0) (i 1) := by
  show ((slotR r).emb (Shape.reshapeEquiv _ i) : S4x2x512.Idx) = _
  rw [Shape.reshapeEquiv_eq_of_rowMajor (y := (ix3 (0 : Fin 1) (i 0) (i 1) : S1x2x512.Idx)) _ (by
    rw [Shape.rowMajor_val_three, Shape.rowMajor_val_two]
    show ((0 * 2 + (i 0).val) * 512 + (i 1).val) = (i 0).val * 512 + (i 1).val
    simp only [Nat.zero_mul, Nat.zero_add]), slotR_emb]
  rfl

omit [FloatOps F] in
theorem mem_slot (r : Fin 4) (i : S4x2x512.Idx) : i ∈ ((slotM r).view.set : Finset S4x2x512.Idx) ↔ i 0 = r := by
  constructor
  · intro h
    obtain ⟨x, -, hx⟩ := Finset.mem_map.mp h
    rw [← hx]; erw [slotM_emb]; rfl
  · rintro rfl
    refine Finset.mem_map.mpr ⟨ix2 (n0 := 2) (n1 := 512) (i 1) (i 2), Finset.mem_univ _, ?_⟩
    erw [slotM_emb]; exact (eq_ix3 i).symm

omit [FloatOps F] in
theorem slots_disjoint : ∀ r ∈ (Finset.univ : Finset (Fin 4)), ∀ s ∈ (Finset.univ : Finset (Fin 4)), r ≠ s →
    Disjoint ((slotM r).view.set : Finset S4x2x512.Idx) ((slotM s).view.set : Finset S4x2x512.Idx) := by
  intro r _ s _ hrs
  rw [Finset.disjoint_left]
  intro i hi hj
  exact hrs (((mem_slot r i).mp hi).symm.trans ((mem_slot s i).mp hj))

omit [FloatOps F] in
theorem slots_cover : Finset.biUnion (β := S4x2x512.Idx) (Finset.univ : Finset (Fin 4)) (fun r => (slotM r).view.set) = Finset.univ := by
  ext i; simp only [Finset.mem_biUnion, Finset.mem_univ, true_and, iff_true]
  exact ⟨i 0, (mem_slot _ i).mpr rfl⟩

omit [FloatOps F] in
theorem access_slot (r : Fin 4) : ((gM.access (slotR r)).set : Finset S4x2x512.Idx) = ((slotM r).view.set : Finset S4x2x512.Idx) :=
  (View.set_reshape _ _).symm

/-- What a device's pair rows leave where they land: slot `r` of a device whose group's device at place `r` sent them. -/
theorem landed_slot (c : Dev nD) (r : Fin 4) (f : (cc0_scratch3 : Ref sig .tc).ty.Contents (Elt F)) (i : S4x2x512.Idx)
    (hi : i ∈ ((slotM r).view.set : Finset S4x2x512.Idx)) :
    (slotM r).view.write (Elt F) f (pairpart m ρ (zpeer c r)) Finset.univ i = gath m ρ c i := by
  obtain ⟨x, -, rfl⟩ := Finset.mem_map.mp hi
  rw [View.write_emb_of_mem _ _ (Finset.mem_univ x)]
  unfold gath
  erw [slotM_emb]
  show pairpart m ρ (zpeer c r) x = pairpart m ρ (zpeer c r) (ix2 (n0 := 2) (n1 := 512) (x 0) (x 1))
  rw [← eq_ix2 x]

/-- The same for a device's own rows, stored in its own slot. -/
theorem stored_slot (c : Dev nD) (f : (cc0_scratch3 : Ref sig .tc).ty.Contents (Elt F)) (i : S4x2x512.Idx)
    (hi : i ∈ ((slotM (q c)).view.set : Finset S4x2x512.Idx)) :
    (gM.access (slotR (q c))).write (Elt F) f (k0_pay11 (k0_pay10 (pairpart m ρ c))) Finset.univ i = gath m ρ c i := by
  rw [← access_slot] at hi
  obtain ⟨x, -, rfl⟩ := Finset.mem_map.mp hi
  rw [View.write_emb_of_mem _ _ (Finset.mem_univ x)]
  unfold gath
  erw [slotR_emb]
  show k0_pay11 (k0_pay10 (pairpart m ρ c)) x = pairpart m ρ (zpeer c (q c)) (ix2 (n0 := 2) (n1 := 512) (x 1) (x 2))
  rw [zpeer_self]
  unfold k0_pay11 k0_pay10
  show shapeCast S1x2x512 (shapeCast S1x2x512 (pairpart m ρ c) _) _ x = _
  rw [shapeCast_self]
  refine shapeCast_apply (pairpart m ρ c) _ x _ ?_
  rw [Shape.rowMajor_val_three, Shape.rowMajor_val_two]
  show (x 1).val * 512 + (x 2).val = ((x 0).val * 2 + (x 1).val) * 512 + (x 2).val
  have : (x 0).val < 1 := (x 0).isLt
  omega

/-- The gathered rows of maxima are what the load of the first rows of all slots reads, -/
theorem read_gv (c : Dev nD) :
    gM.view.readAt (Elt F) (Rect.unit (s := S4x2x512) ![0, 0, 0] S4x1x512.size inb_S4x2x512_S4x1x512_0_0_0).toLoadRect (gath m ρ c) = gv m ρ c := by
  funext i
  show gath m ρ c _ = gv m ρ c i
  have h0 : ((Rect.unit (s := S4x2x512) ![0, 0, 0] S4x1x512.size inb_S4x2x512_S4x1x512_0_0_0).toLoadRect.idx i : S4x2x512.Idx) = ix3 (i 0) (0 : Fin 2) (i 2) := by
    funext x; apply Fin.ext
    match x with
    | ⟨0, _⟩ => show 0 + 1 * (i 0).val = (i 0).val; omega
    | ⟨1, _⟩ => show 0 + 1 * (i 1).val = 0; have : (i 1).val < 1 := (i 1).isLt; omega
    | ⟨2, _⟩ => show 0 + 1 * (i 2).val = (i 2).val; omega
  exact congrArg (gath m ρ c) h0
/-- and the rows of positions what the load of the second rows reads. -/
theorem read_gi (c : Dev nD) :
    gM.view.readAt (Elt F) (Rect.unit (s := S4x2x512) ![0, 1, 0] S4x1x512.size inb_S4x2x512_S4x1x512_0_1_0).toLoadRect (gath m ρ c) = gi m ρ c := by
  funext i
  show gath m ρ c _ = gi m ρ c i
  have h0 : ((Rect.unit (s := S4x2x512) ![0, 1, 0] S4x1x512.size inb_S4x2x512_S4x1x512_0_1_0).toLoadRect.idx i : S4x2x512.Idx) = ix3 (i 0) (1 : Fin 2) (i 2) := by
    funext x; apply Fin.ext
    match x with
    | ⟨0, _⟩ => show 0 + 1 * (i 0).val = (i 0).val; omega
    | ⟨1, _⟩ => show 1 + 1 * (i 1).val = 1; have : (i 1).val < 1 := (i 1).isLt; omega
    | ⟨2, _⟩ => show 0 + 1 * (i 2).val = (i 2).val; omega
  exact congrArg (gath m ρ c) h0

end Cert.KernelIdealProof

end
-- ==== Proof.KernelIdeal.Proto.lean ====
/-
# The protocol of the kernel's exchange

Every device has eleven semaphore cells the exchange goes by: the barrier, one send and one receive cell for the
exchange with its partner, and a send and a receive cell for each of the four places of its group.

* BARRIER of `d` (waits for four units).  The device `peer d s` pays unit `s`, for each place `s`.  With it `d` is
  lent, for its own place, the partner's landing buffer, and for every other place `s` the slot `q d` of the
  gathering buffer of the group's device at place `s` — so that nobody's buffer is written before its owner has
  entered the kernel.
* Receive cell of the pair exchange: the partner's transfer pays it with the landing buffer holding the partner's two
  rows.  Send cell: the device's own two rows back.
* Receive cell `r` of the group exchange (`r` another place than the device's own): the group's device at place `r`
  pays it with slot `r` holding its pair's rows.  Send cell `r`: a quarter share of the device's pair rows back.

A device signals, waits for its barrier, transfers to its partner, waits for both pair cells, transfers to its group
and waits for the group's cells; the cells are levelled in that order, so no wait can be for something owed later.
-/
module

public import proofs.«01_k».proof.Proof.KernelIdeal.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, its duties named by `Fin 4` -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores and the cells -/

abbrev barS : Sem sig := (SemArray.scalar (sig.barrier 0 rfl) : Sems sig S_).sem
abbrev pS : DmaSem sig := ⟨2, by decide⟩
abbrev pV : DmaSem sig := ⟨3, by decide⟩
set_option backward.proofsInPublic true in
abbrev sS (r : Fin 4) : DmaSem sig := ⟨r.val + 4, by have := r.isLt; show r.val + 4 < 12; omega⟩
set_option backward.proofsInPublic true in
abbrev vS (r : Fin 4) : DmaSem sig := ⟨r.val + 8, by have := r.isLt; show r.val + 8 < 12; omega⟩

/-- The kernel reaches them by name or by slicing an array of four. -/
theorem sem_pS : (cc0_scratch4 : DmaSems sig S_).sem = pS := rfl
theorem sem_pV : (cc0_scratch5 : DmaSems sig S_).sem = pV := rfl
theorem sem_inb (r : Fin 4) : ∀ a, (![r.val] : Fin 1 → Nat) a + S1.size a ≤ S4.size a := by revert r; decide
theorem sem_sS (r : Fin 4) (h) : ((cc0_scratch6.slice (Rect.unit (s := S4) ![r.val] S1.size h)).squeeze S_ squeezes_S1_S_).sem = sS r := by
  revert h; revert r; decide
theorem sem_vS (r : Fin 4) (h) : ((cc0_scratch7.slice (Rect.unit (s := S4) ![r.val] S1.size h)).squeeze S_ squeezes_S1_S_).sem = vS r := by
  revert h; revert r; decide

abbrev barCell (c : Dev nD) : GSem nD τ sig := ((c : Thread nD τ), .reg barS)
abbrev pSCell (c : Dev nD) : GSem nD τ sig := ((c : Thread nD τ), .dma pS)
abbrev pVCell (c : Dev nD) : GSem nD τ sig := ((c : Thread nD τ), .dma pV)
abbrev sCell (c : Dev nD) (r : Fin 4) : GSem nD τ sig := ((c : Thread nD τ), .dma (sS r))
abbrev vCell (c : Dev nD) (r : Fin 4) : GSem nD τ sig := ((c : Thread nD τ), .dma (vS r))

/-- The units a transfer of two rows raises its cells by. -/
abbrev N : ℕ := (inM : Memref sig .tc .vmem S2x512 .f32).view.dmaCredit
theorem N_pos : 0 < N := View.dmaCredit_pos _ (by decide)

/-! ## What is handed over -/

abbrev partPts (c : Dev nD) (f : (cc0_scratch0 : Ref sig .tc).ty.Contents (Elt F)) : sProp 𝕄 :=
  partM.view.loc (c : Thread nD τ) ↦[partM.view.set]{fullShare} f
abbrev inPts (c : Dev nD) (f : (cc0_scratch1 : Ref sig .tc).ty.Contents (Elt F)) : sProp 𝕄 :=
  inM.view.loc (c : Thread nD τ) ↦[inM.view.set]{fullShare} f
abbrev pairPts (s : PosShare TreeShare) (c : Dev nD) (f : (cc0_scratch2 : Ref sig .tc).ty.Contents (Elt F)) : sProp 𝕄 :=
  pairM.view.loc (c : Thread nD τ) ↦[pairM.view.set]{s} f
abbrev slotPts (c : Dev nD) (r : Fin 4) (f : (cc0_scratch3 : Ref sig .tc).ty.Contents (Elt F)) : sProp 𝕄 :=
  (slotM r).view.loc (c : Thread nD τ) ↦[(slotM r).view.set]{fullShare} f

/-- The four quarter shares of the pair rows, one for each group transfer. -/
def quarter : Fin 4 → PosShare TreeShare
  | 0 => fullShare.left.left | 1 => fullShare.left.right | 2 => fullShare.right.left | 3 => fullShare.right.right

/-- What `c` lends the device it talks to at place `r`: at its own place (its partner) its landing buffer, elsewhere
    its slot `r`. -/
def lend (c : Dev nD) (r : Fin 4) : sProp 𝕄 :=
  if r = q c then iprop(∃ f, inPts c f) else iprop(∃ f, slotPts c r f)

omit [FloatOps F] in
instance lend_storable (c : Dev nD) (r : Fin 4) : BI.Storable (upEmb : UEmb _ 𝕄) (lend (F := F) c r) := by
  unfold lend; split <;> infer_instance

/-- The place a group cell's semaphore is of. -/
def placeOf (s : DmaSem sig) : Fin 4 := ⟨s.val % 4, Nat.mod_lt _ (by decide)⟩
theorem placeOf_sS (r : Fin 4) : placeOf (sS r) = r := by revert r; decide
theorem placeOf_vS (r : Fin 4) : placeOf (vS r) = r := by revert r; decide

/-! ## The schedule -/

/-- One round: the barrier has the four duties, a pair cell the duty `0`, a group cell the duty `0` unless it is of the
    device's own place. -/
def duties0 (c : Dev nD) : SemLoc sig → Finset (Fin 4)
  | .reg s => if s = barS then Finset.univ else ∅
  | .dma s => if s = pS ∨ s = pV then {0} else if 4 ≤ s.val ∧ placeOf s ≠ q c then {0} else ∅

def pay (c : Dev nD) (d : Fin 4) : SemLoc sig → sProp 𝕄
  | .reg _ => lend (peer c d) (q c)
  | .dma s => if s = pS then partPts c (part m ρ c) else if s = pV then inPts c (part m ρ (partner c))
      else if s.val < 8 then pairPts (quarter (placeOf s)) c (pairpart m ρ c) else slotPts c (placeOf s) (gath m ρ c)

instance pay_storable (c : Dev nD) (d : Fin 4) (s : SemLoc sig) : BI.Storable (upEmb : UEmb _ 𝕄) (pay (F := F) m ρ c d s) := by
  unfold pay; split
  · infer_instance
  · (repeat' split) <;> infer_instance

def units : SemLoc sig → ℕ
  | .reg _ => 1
  | .dma _ => N

def Rd : Rounds.Schedule (GSem nD τ sig) (Fin 4) 𝕄 where
  duties g r := if r = 0 ∧ g.1.2 = .tc then duties0 g.1.1 g.2 else ∅
  unitless _ := False
  amount g _ _ := units g.2
  payload g _ d := pay m ρ g.1.1 d g.2
  amount_pos g _ _ _ := by
    cases g.2 with
    | reg s => exact Nat.one_pos
    | dma s => exact N_pos

instance Rd_payload_storable (g : GSem nD τ sig) (r : ℕ) (d : Fin 4) :
    BI.Storable (upEmb : UEmb _ 𝕄) ((Rd (F := F) m ρ).payload g r d) := pay_storable m ρ g.1.1 d g.2

section Sched
variable (c : Dev nD) (r : Fin 4)

omit [FloatOps F] in
theorem sS_ne_pS : sS r ≠ pS := by revert r; decide
omit [FloatOps F] in
theorem sS_ne_pV : sS r ≠ pV := by revert r; decide
omit [FloatOps F] in
theorem vS_ne_pS : vS r ≠ pS := by revert r; decide
omit [FloatOps F] in
theorem vS_ne_pV : vS r ≠ pV := by revert r; decide

theorem duties_at (s : SemLoc sig) : (Rd (F := F) m ρ).duties ((c : Thread nD τ), s) 0 = duties0 c s := by
  unfold Rd; dsimp only; exact if_pos ⟨rfl, rfl⟩
theorem duties_later (g : GSem nD τ sig) : ∀ n, 1 ≤ n → (Rd (F := F) m ρ).duties g n = ∅ :=
  fun n hn => if_neg fun h => by omega
theorem duties_bar : (Rd (F := F) m ρ).duties (barCell c) 0 = Finset.univ := by
  rw [duties_at]; unfold duties0; exact if_pos rfl
theorem duties_pS : (Rd (F := F) m ρ).duties (pSCell c) 0 = {0} := by
  rw [duties_at]; unfold duties0; exact if_pos (.inl rfl)
theorem duties_pV : (Rd (F := F) m ρ).duties (pVCell c) 0 = {0} := by
  rw [duties_at]; unfold duties0; exact if_pos (.inr rfl)
theorem duties_s (h : r ≠ q c) : (Rd (F := F) m ρ).duties (sCell c r) 0 = {0} := by
  rw [duties_at]; unfold duties0; dsimp only
  rw [if_neg (not_or.mpr ⟨sS_ne_pS r, sS_ne_pV r⟩), placeOf_sS, if_pos ⟨by show 4 ≤ r.val + 4; omega, h⟩]
theorem duties_v (h : r ≠ q c) : (Rd (F := F) m ρ).duties (vCell c r) 0 = {0} := by
  rw [duties_at]; unfold duties0; dsimp only
  rw [if_neg (not_or.mpr ⟨vS_ne_pS r, vS_ne_pV r⟩), placeOf_vS, if_pos ⟨by show 4 ≤ r.val + 8; omega, h⟩]
theorem duties_s_self (h : r = q c) : ∀ n, 0 ≤ n → (Rd (F := F) m ρ).duties (sCell c r) n = ∅ := by
  intro n _
  rcases Nat.eq_zero_or_pos n with rfl | hn
  · rw [duties_at]; unfold duties0; dsimp only
    rw [if_neg (not_or.mpr ⟨sS_ne_pS r, sS_ne_pV r⟩), placeOf_sS, if_neg (fun h' => h'.2 h)]
  · exact duties_later m ρ _ n hn
theorem duties_v_self (h : r = q c) : ∀ n, 0 ≤ n → (Rd (F := F) m ρ).duties (vCell c r) n = ∅ := by
  intro n _
  rcases Nat.eq_zero_or_pos n with rfl | hn
  · rw [duties_at]; unfold duties0; dsimp only
    rw [if_neg (not_or.mpr ⟨vS_ne_pS r, vS_ne_pV r⟩), placeOf_vS, if_neg (fun h' => h'.2 h)]
  · exact duties_later m ρ _ n hn

theorem amount_bar (d : Fin 4) : (Rd (F := F) m ρ).amount (barCell c) 0 d = 1 := rfl
theorem amount_dma (s : DmaSem sig) (d : Fin 4) : (Rd (F := F) m ρ).amount ((c : Thread nD τ), .dma s) 0 d = N := rfl

theorem expect_bar : (Rd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_dma (s : DmaSem sig) (h : (Rd (F := F) m ρ).duties ((c : Thread nD τ), .dma s) 0 = {0}) :
    (Rd (F := F) m ρ).expect ((c : Thread nD τ), .dma s) 0 = N := by
  unfold Schedule.expect Schedule.amountOf; rw [h, Finset.sum_singleton, amount_dma]

theorem payload_bar (d : Fin 4) : (Rd (F := F) m ρ).payload (barCell c) 0 d = lend (peer c d) (q c) := rfl
theorem payload_pS (d : Fin 4) : (Rd (F := F) m ρ).payload (pSCell c) 0 d = partPts c (part m ρ c) := by
  show pay m ρ c d (.dma pS) = _; unfold pay; dsimp only; exact if_pos rfl
theorem payload_pV (d : Fin 4) : (Rd (F := F) m ρ).payload (pVCell c) 0 d = inPts c (part m ρ (partner c)) := by
  show pay m ρ c d (.dma pV) = _; unfold pay; dsimp only
  rw [if_neg (by decide), if_pos rfl]
theorem payload_s (d : Fin 4) : (Rd (F := F) m ρ).payload (sCell c r) 0 d = pairPts (quarter r) c (pairpart m ρ c) := by
  show pay m ρ c d (.dma (sS r)) = _; unfold pay; dsimp only
  rw [if_neg (sS_ne_pS r), if_neg (sS_ne_pV r), if_pos (by have := r.isLt; omega), placeOf_sS]
theorem payload_v (d : Fin 4) : (Rd (F := F) m ρ).payload (vCell c r) 0 d = slotPts c r (gath m ρ c) := by
  show pay m ρ c d (.dma (vS r)) = _; unfold pay; dsimp only
  rw [if_neg (vS_ne_pS r), if_neg (vS_ne_pV r), if_neg (by omega), placeOf_vS]

/-- What the barrier's wait brings: the four buffers lent. -/
theorem rest_bar : bigSep ((Rd (F := F) m ρ).duties (barCell c) 0 \ ∅) (fun d => (Rd (F := F) m ρ).payload (barCell c) 0 d)
    = bigSep Finset.univ fun d : Fin 4 => lend (peer c d) (q c) := by
  rw [Finset.sdiff_empty, duties_bar]; rfl
theorem rest_dma (s : DmaSem sig) (h : (Rd (F := F) m ρ).duties ((c : Thread nD τ), .dma s) 0 = {0}) :
    bigSep ((Rd (F := F) m ρ).duties ((c : Thread nD τ), .dma s) 0 \ ∅) (fun d => (Rd (F := F) m ρ).payload ((c : Thread nD τ), .dma s) 0 d)
      = (Rd (F := F) m ρ).payload ((c : Thread nD τ), .dma s) 0 0 := by
  rw [Finset.sdiff_empty, h, bigSep_singleton]

end Sched

/-! ## What each device owes at launch; the levels -/

/-- The unit device `c` owes the barrier of the group's device at place `r`, -/
def ob (c : Dev nD) (r : Fin 4) : CellTallies nD τ sig Unit := if r = q c then 0 else tallyAt (barCell (zpeer c r)) () 1
/-- and the transfer it owes that device. -/
def o2 (c : Dev nD) (r : Fin 4) : CellTallies nD τ sig Unit := if r = q c then 0 else tallyAt (vCell (zpeer c r) (q c)) () N

abbrev S3 (c : Dev nD) : CellTallies nD τ sig Unit := 0 + o2 c 3
abbrev S2 (c : Dev nD) : CellTallies nD τ sig Unit := S3 c + o2 c 2
abbrev S1' (c : Dev nD) : CellTallies nD τ sig Unit := S2 c + o2 c 1
/-- The four group transfers, -/
abbrev S0 (c : Dev nD) : CellTallies nD τ sig Unit := S1' c + o2 c 0
/-- and the pair transfer, -/
abbrev P0 (c : Dev nD) : CellTallies nD τ sig Unit := S0 c + tallyAt (pVCell (partner c)) () N
abbrev B3 (c : Dev nD) : CellTallies nD τ sig Unit := P0 c + ob c 3
abbrev B2 (c : Dev nD) : CellTallies nD τ sig Unit := B3 c + ob c 2
abbrev B1 (c : Dev nD) : CellTallies nD τ sig Unit := B2 c + ob c 1
abbrev B0 (c : Dev nD) : CellTallies nD τ sig Unit := B1 c + ob c 0
/-- and the barrier units of the group and of the partner: all that a device owes at launch. -/
def O₀ (c : Dev nD) : CellTallies nD τ sig Unit := B0 c + tallyAt (barCell (partner c)) () 1

def L (g : GSem nD τ sig) : Finset Unit := if g.1.2 = .tc then {()} else ∅
/-- Staging and send cells at 0, barriers at 1, the pair's receive cells at 2, the group's at 3. -/
def lvOf : SemLoc sig → ℕ
  | .reg s => 1
  | .dma s => if s = pV then 2 else if 8 ≤ s.val then 3 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_v (c : Dev nD) (r : Fin 4) (u : Unit) : lv (vCell c r) u = 3 := by
  show (if vS r = pV then 2 else if 8 ≤ r.val + 8 then 3 else 0) = 3
  rw [if_neg (vS_ne_pV r), if_pos (by omega)]
theorem lv_pV (c : Dev nD) (u : Unit) : lv (pVCell c) u = 2 := by
  show lvOf (.dma pV) = 2; unfold lvOf; exact if_pos rfl
theorem lv_bar (c : Dev nD) (u : Unit) : lv (barCell c) u = 1 := rfl

/-- What a sum of tallies is positive at, one of the two is. -/
theorem add_pos_cases {O O' : CellTallies nD τ sig Unit} {g : GSem nD τ sig} {u : Unit} (h : 0 < (O + O') g u) :
    0 < O g u ∨ 0 < O' g u := by
  rw [Pi.add_apply, Finsupp.add_apply] at h; omega
theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h
theorem o2_pos {c : Dev nD} {r : Fin 4} {g : GSem nD τ sig} {u : Unit} (h : 0 < o2 c r g u) : g = vCell (zpeer c r) (q c) := by
  unfold o2 at h; split at h
  · exact absurd h (Nat.lt_irrefl 0)
  · exact tally_pos h
theorem ob_pos {c : Dev nD} {r : Fin 4} {g : GSem nD τ sig} {u : Unit} (h : 0 < ob c r g u) : g = barCell (zpeer c r) := by
  unfold ob at h; split at h
  · exact absurd h (Nat.lt_irrefl 0)
  · exact tally_pos h
theorem S0_pos {c : Dev nD} {g : GSem nD τ sig} {u : Unit} (h : 0 < S0 c g u) : ∃ d r, g = vCell d r := by
  rcases add_pos_cases h with h | h
  · rcases add_pos_cases h with h | h
    · rcases add_pos_cases h with h | h
      · rcases add_pos_cases h with h | h
        · exact absurd h (Nat.lt_irrefl 0)
        · exact ⟨_, _, o2_pos h⟩
      · exact ⟨_, _, o2_pos h⟩
    · exact ⟨_, _, o2_pos h⟩
  · exact ⟨_, _, o2_pos h⟩
theorem P0_pos {c : Dev nD} {g : GSem nD τ sig} {u : Unit} (h : 0 < P0 c g u) : (∃ d r, g = vCell d r) ∨ ∃ d, g = pVCell d := by
  rcases add_pos_cases h with h | h
  · exact .inl (S0_pos h)
  · exact .inr ⟨_, tally_pos h⟩
theorem O₀_pos {c : Dev nD} {g : GSem nD τ sig} {u : Unit} (h : 0 < O₀ c g u) :
    ((∃ d r, g = vCell d r) ∨ ∃ d, g = pVCell d) ∨ ∃ d, g = barCell d := by
  rcases add_pos_cases h with h | h
  · rcases add_pos_cases h with h | h
    · rcases add_pos_cases h with h | h
      · rcases add_pos_cases h with h | h
        · rcases add_pos_cases h with h | h
          · exact .inl (P0_pos h)
          · exact .inr ⟨_, ob_pos h⟩
        · exact .inr ⟨_, ob_pos h⟩
      · exact .inr ⟨_, ob_pos h⟩
    · exact .inr ⟨_, ob_pos h⟩
  · exact .inr ⟨_, tally_pos h⟩

/-- A wait at a level below everything owed is allowed. -/
theorem mayWait_of (c : Dev nD) (s : SemLoc sig) (n : ℕ) (O : CellTallies nD τ sig Unit) (hs : lvOf s ≤ n)
    (hO : ∀ g u, 0 < O g u → g.1.2 = .tc ∧ n < lvOf g.2) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_stage (c : Dev nD) (s : DmaSem sig) (hs : lvOf (.dma s) = 0) (O : CellTallies nD τ sig Unit) (hO : O = O₀ c ∨ O = 0) :
    (levAts L lv : sProp 𝕄) ⊢ MayWait (c : Thread nD τ) (.dma s) () O := by
  rcases hO with rfl | rfl
  · refine mayWait_of c _ 0 _ hs.le fun g u hg => ?_
    rcases O₀_pos hg with (⟨d, r, rfl⟩ | ⟨d, rfl⟩) | ⟨d, rfl⟩
    · exact ⟨rfl, by have := lv_v d r u; unfold lv at this; omega⟩
    · exact ⟨rfl, by have := lv_pV d u; unfold lv at this; omega⟩
    · exact ⟨rfl, Nat.one_pos⟩
  · rw [MayWait_zero]; iintro -; iempintro

/-- At the barrier a device owes its transfers only. -/
theorem mayWait_bar (c : Dev nD) : (levAts L lv : sProp 𝕄) ⊢ MayWait (c : Thread nD τ) (.reg barS) () (P0 c) :=
  mayWait_of c _ 1 _ le_rfl fun g u hg => by
    rcases P0_pos hg with ⟨d, r, rfl⟩ | ⟨d, rfl⟩
    · exact ⟨rfl, by have := lv_v d r u; unfold lv at this; omega⟩
    · exact ⟨rfl, by have := lv_pV d u; unfold lv at this; omega⟩
/-- At the pair's cells it owes its group transfers only. -/
theorem mayWait_pair (c : Dev nD) (s : DmaSem sig) (hs : lvOf (.dma s) ≤ 2) :
    (levAts L lv : sProp 𝕄) ⊢ MayWait (c : Thread nD τ) (.dma s) () (S0 c) :=
  mayWait_of c _ 2 _ hs fun g u hg => by
    obtain ⟨d, r, rfl⟩ := S0_pos hg
    exact ⟨rfl, by have := lv_v d r u; unfold lv at this; omega⟩

/-! ## The cells by number, and the ghost state -/

set_option backward.proofsInPublic true in
/-- The kernel's own (scoped) semaphores, as the launch numbers them. -/
abbrev osem : Fin 10 → SemLoc sig := fun k => .dma ⟨k.val + 2, by have := k.isLt; show k.val + 2 < 12; omega⟩
set_option backward.proofsInPublic true in
/-- All eleven cells of the exchange: the barrier, then those. -/
abbrev csem : Fin 11 → SemLoc sig := fun k => if k.val = 0 then .reg barS else .dma ⟨k.val + 1, by have := k.isLt; show k.val + 1 < 12; omega⟩
abbrev kcell (ck : Dev nD × Fin 11) : GSem nD τ sig := ((ck.1 : Thread nD τ), csem ck.2)
abbrev kB : Fin 11 := 0
abbrev kpS : Fin 11 := 1
abbrev kpV : Fin 11 := 2
def kS (r : Fin 4) : Fin 11 := ⟨r.val + 3, by have := r.isLt; omega⟩
def kV (r : Fin 4) : Fin 11 := ⟨r.val + 7, by have := r.isLt; omega⟩
theorem kcell_B (c : Dev nD) : kcell (c, kB) = barCell c := rfl
theorem kcell_pS (c : Dev nD) : kcell (c, kpS) = pSCell c := rfl
theorem kcell_pV (c : Dev nD) : kcell (c, kpV) = pVCell c := rfl
theorem kcell_s (c : Dev nD) (r : Fin 4) : kcell (c, kS r) = sCell c r := rfl
theorem kcell_v (c : Dev nD) (r : Fin 4) : kcell (c, kV r) = vCell c r := rfl

/-- What every device knows: each cell's invariant, and that each cell has begun its round. -/
def records (K : Dev nD × Fin 11 → ℕ) : sProp 𝕄 :=
  iprop((bigSep Finset.univ fun ck : Dev nD × Fin 11 => cellInv ER (Rd m ρ) (K ck) (kcell ck))
    ∗ bigSep Finset.univ fun ck : Dev nD × Fin 11 => reached ER (kcell ck) 0)

instance records_persistent (K : Dev nD × Fin 11 → ℕ) : BI.Persistent (records m ρ K) := by unfold records; infer_instance

theorem records_at (K : Dev nD × Fin 11 → ℕ) (ck : Dev nD × Fin 11) :
    records m ρ K ⊢ iprop(cellInv ER (Rd m ρ) (K ck) (kcell ck) ∗ reached ER (kcell ck) 0) := by
  unfold records
  exact BI.sep_mono (bigSep_elim (Finset.mem_univ ck)) (bigSep_elim (Finset.mem_univ ck))

/-- The tokens of the duties device `c` pays. -/
def payToks (c : Dev nD) : sProp 𝕄 :=
  iprop((bigSep Finset.univ fun r : Fin 4 => dutyTok ER (barCell (peer c r)) 0 (q c))
    ∗ dutyTok ER (pVCell (partner c)) 0 0 ∗ dutyTok ER (pSCell c) 0 0
    ∗ (bigSep Finset.univ fun r : Fin 4 => dutyTok ER (vCell (peer c r) (q c)) 0 0)
    ∗ bigSep Finset.univ fun r : Fin 4 => dutyTok ER (sCell c r) 0 0)

/-- Its places at the start of its own cells' round. -/
def places (c : Dev nD) : sProp 𝕄 :=
  iprop(atPos ER (barCell c) 0 ∅ 0 ∗ atPos ER (pSCell c) 0 ∅ 0 ∗ atPos ER (pVCell c) 0 ∅ 0
    ∗ (bigSep Finset.univ fun r : Fin 4 => atPos ER (sCell c r) 0 ∅ 0)
    ∗ bigSep Finset.univ fun r : Fin 4 => atPos ER (vCell c r) 0 ∅ 0)

/-- The ghost state device `c` starts from. -/
def ghost (K : Dev nD × Fin 11 → ℕ) (c : Dev nD) : sProp 𝕄 :=
  iprop(records m ρ K ∗ places c ∗ payToks c)

/-- The credits device `c` starts with: what the others owe its barrier and receive cells. -/
def credits (c : Dev nD) : sProp 𝕄 :=
  iprop(cred (tallyAt (barCell c) () 4) ∗ cred (tallyAt (pVCell c) () N)
    ∗ bigSep Finset.univ fun r : Fin 4 => cred (tallyAt (vCell c r) () (if r = q c then 0 else N)))

/-- What device `c`'s body starts from besides its buffers. -/
def start (c : Dev nD) : sProp 𝕄 := iprop((∃ K, ghost m ρ K c) ∗ credits c ∗ levAts L lv)

/-! ## Sums over the four places -/

omit [FloatOps F] in
/-- The summand at one place, taken out. -/
theorem take4 (a : Fin 4) (Φ : Fin 4 → sProp 𝕄) :
    bigSep Finset.univ Φ = iprop(Φ a ∗ bigSep Finset.univ fun r : Fin 4 => if r = a then iprop(emp) else Φ r) := by
  rw [bigSep_erase (Finset.mem_univ a) (Φ := Φ), bigSep_erase (Finset.mem_univ a) (Φ := fun r : Fin 4 => if r = a then iprop(emp) else Φ r), if_pos rfl]
  refine congrArg (BI.sep (Φ a)) (Eq.trans ?_ (equiv_iff.mp emp_sep).symm)
  exact bigSep_congr fun r hr => (if_neg (Finset.ne_of_mem_erase hr)).symm
omit [FloatOps F] in
/-- A summand put at one place of a sum. -/
theorem put4 (a : Fin 4) (A : sProp 𝕄) (Φ : Fin 4 → sProp 𝕄) :
    iprop(A ∗ bigSep Finset.univ fun r : Fin 4 => if r = a then iprop(emp) else Φ r)
      = bigSep Finset.univ fun r : Fin 4 => if r = a then A else Φ r := by
  rw [take4 a (fun r : Fin 4 => if r = a then A else Φ r), if_pos rfl]
  congr 1
  exact bigSep_congr fun r _ => by by_cases h : r = a <;> simp [h]
omit [FloatOps F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdealProof

end
-- ==== Proof.KernelIdeal.Guards.lean ====
/-
# The kernel's guarded effects

The kernel signals, transfers to and waits for the device at each place of its group, guarded by that place being
another than its own.  Each guarded effect has one statement, for both outcomes of its condition.
-/
module

public import proofs.«01_k».proof.Proof.KernelIdeal.Proto
public import proofs.«01_k».proof.Proof.Gen.KernelIdeal.Points
public import proofs.«01_k».proof.Proof.Gen.KernelIdeal.Frame

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What device `c` owes, whatever waits it has made. -/
def owesAny (c : Dev nD) (O : CellTallies nD τ sig Unit) : sProp 𝕄 := iprop(∃ W, owes (c : Thread nD τ) O W)

/-! ## Names and conditions of the program -/

theorem dev1_eq (c : Dev nD) (h) : (⟨k0_dev1 c, h⟩ : Dev nD) = partner c := Fin.ext (k0_dev1_eq c)
theorem dev6_eq (c : Dev nD) (h) : (⟨k0_dev6 c, h⟩ : Dev nD) = partner c := Fin.ext (k0_dev6_eq c)
theorem dev2_eq (c : Dev nD) (h) : (⟨k0_dev2 c, h⟩ : Dev nD) = zpeer c 0 := by revert h; revert c; decide
theorem dev3_eq (c : Dev nD) (h) : (⟨k0_dev3 c, h⟩ : Dev nD) = zpeer c 1 := by revert h; revert c; decide
theorem dev4_eq (c : Dev nD) (h) : (⟨k0_dev4 c, h⟩ : Dev nD) = zpeer c 2 := by revert h; revert c; decide
theorem dev5_eq (c : Dev nD) (h) : (⟨k0_dev5 c, h⟩ : Dev nD) = zpeer c 3 := by revert h; revert c; decide
theorem dev7_eq (c : Dev nD) (h) : (⟨k0_dev7 c, h⟩ : Dev nD) = zpeer c 0 := by revert h; revert c; decide
theorem dev8_eq (c : Dev nD) (h) : (⟨k0_dev8 c, h⟩ : Dev nD) = zpeer c 1 := by revert h; revert c; decide
theorem dev9_eq (c : Dev nD) (h) : (⟨k0_dev9 c, h⟩ : Dev nD) = zpeer c 2 := by revert h; revert c; decide
theorem dev10_eq (c : Dev nD) (h) : (⟨k0_dev10 c, h⟩ : Dev nD) = zpeer c 3 := by revert h; revert c; decide
theorem cond1_iff (c : Dev nD) : k0_cond1 c = 1#1 ↔ (0 : Fin 4) ≠ q c := by revert c; decide
theorem cond2_iff (c : Dev nD) : k0_cond2 c = 1#1 ↔ (1 : Fin 4) ≠ q c := by revert c; decide
theorem cond3_iff (c : Dev nD) : k0_cond3 c = 1#1 ↔ (2 : Fin 4) ≠ q c := by revert c; decide
theorem cond4_iff (c : Dev nD) : k0_cond4 c = 1#1 ↔ (3 : Fin 4) ≠ q c := by revert c; decide
theorem cond5_iff (c : Dev nD) : k0_cond5 c = 1#1 ↔ (0 : Fin 4) ≠ q c := by revert c; decide
theorem cond6_iff (c : Dev nD) : k0_cond6 c = 1#1 ↔ (1 : Fin 4) ≠ q c := by revert c; decide
theorem cond7_iff (c : Dev nD) : k0_cond7 c = 1#1 ↔ (2 : Fin 4) ≠ q c := by revert c; decide
theorem cond8_iff (c : Dev nD) : k0_cond8 c = 1#1 ↔ (3 : Fin 4) ≠ q c := by revert c; decide

/-- A device's place as the program computes it, -/
abbrev placeWord (c : Dev nD) : BitVec 32 := Scalar.remsi (Scalar.remsi (Scalar.divsi (Dev.word c) 1#32) 8#32) 4#32
/-- and its comparison with a place. -/
theorem place_ne (c : Dev nD) (r : Fin 4) :
    Scalar.cmpi .ne (Scalar.extui (Scalar.cmpi .ne (placeWord c) (BitVec.ofNat 32 r.val)) : BitVec 32) 0#32 = 1#1 ↔ r ≠ q c := by
  revert c r; decide

/-! ## The guarded effects -/

section Guards

/-- A device learns its number. -/
theorem step_deviceId (c : Dev nD) {α : Type} {Q : α → sProp 𝕄} {k : Dev nD → Prog (TpuEff nD τ sig (Elt F) Λ₀ .tc) α} :
    wp frame (wpE (defs₀ (F := F)) 𝒱₀ (c : Thread nD τ) none) Set.univ (k c) Q
      ⊢ wp frame (wpE (defs₀ (F := F)) 𝒱₀ (c : Thread nD τ) none) Set.univ (.op .deviceId k) Q :=
  Entails.of_eq (wp_deviceId (c := (c : Thread nD τ)) 𝒱₀ none Set.univ).symm

variable (K : Dev nD × Fin 11 → ℕ) (c : Dev nD) (r : Fin 4)

/-- The barrier unit for the group's device at place `r`, unless that is the device itself. -/
theorem guard_signal {p : Prop} [Decidable p] (hp : p ↔ r ≠ q c) {n : p → Dev nD} (hn : ∀ h, n h = zpeer c r) (O : CellTallies nD τ sig Unit)
    {α : Type} {Q : α → sProp 𝕄} {k' : Prog (TpuEff nD τ sig (Elt F) Λ₀ .tc) α} :
    iprop(records m ρ K ∗ (if r = q c then iprop(emp) else iprop(dutyTok ER (barCell (peer c r)) 0 (q c) ∗ lend c r)) ∗ owesAny c (O + ob c r))
      ⊢ iprop((owesAny c O -∗ wp frame (wpE (defs₀ (F := F)) 𝒱₀ (c : Thread nD τ) none) Set.univ k' Q)
          -∗ wp frame (wpE (defs₀ (F := F)) 𝒱₀ (c : Thread nD τ) none) Set.univ
              (dite p (fun h => .op (.semSignal ((n h : Dev nD) : Thread nD τ) barS (1#32).toInt) (fun _ => k')) (fun _ => k')) Q) := by
  by_cases hr : r = q c
  · rw [dif_neg (fun h => hp.mp h hr), if_pos hr, show O + ob c r = O by unfold ob; rw [if_pos hr]; exact add_zero O]
    iintro ⟨-, -, HO⟩ Hk
    iapply Hk; iexact HO
  · have h := hp.mpr hr
    rw [dif_pos h, hn h, if_neg hr, peer_of_ne hr, show ob c r = tallyAt (barCell (zpeer c r)) () 1 from if_neg hr]
    iintro ⟨#HR, ⟨Ht, Hl⟩, HO⟩ Hk
    ihave Hrec := (records_at m ρ K (zpeer c r, kB)) $$ HR
    icases Hrec with ⟨#HI, #Hd⟩
    unfold owesAny
    icases HO with ⟨%W, HO⟩
    iapply (Rounds.wp_signal 𝒱₀ ER (Rd m ρ) (c : Thread nD τ) none (dst := (zpeer c r : Thread nD τ)) (κ := K (zpeer c r, kB))
      (d := q c) (by rw [duties_bar]; exact Finset.mem_univ _) ((amount_bar m ρ (zpeer c r) (q c)).trans (by decide)) () O rfl) $$ [HO Ht Hl]
    · isplitr; · iexact HI
      isplitl [HO]; · iexact HO
      isplitl [Ht]; · iexact Ht
      isplitl [Hl]
      · rw [payload_bar, q_zpeer, ← peer_of_ne hr, peer_peer]; iexact Hl
      iexact Hd
    iintro HO
    iapply Hk; iexists W; iexact HO

/-- The barrier unit for the partner. -/
theorem signal_partner {n : Dev nD} (hn : n = partner c) (O : CellTallies nD τ sig Unit)
    {α : Type} {Q : α → sProp 𝕄} {k' : Prog (TpuEff nD τ sig (Elt F) Λ₀ .tc) α} :
    iprop(records m ρ K ∗ (dutyTok ER (barCell (partner c)) 0 (q c) ∗ lend c (q c)) ∗ owesAny c (O + tallyAt (barCell (partner c)) () 1))
      ⊢ iprop((owesAny c O -∗ wp frame (wpE (defs₀ (F := F)) 𝒱₀ (c : Thread nD τ) none) Set.univ k' Q)
          -∗ wp frame (wpE (defs₀ (F := F)) 𝒱₀ (c : Thread nD τ) none) Set.univ (.op (.semSignal (n : Thread nD τ) barS (1#32).toInt) (fun _ => k')) Q) := by
  subst hn
  iintro ⟨#HR, ⟨Ht, Hl⟩, HO⟩ Hk
  ihave Hrec := (records_at m ρ K (partner c, kB)) $$ HR
  icases Hrec with ⟨#HI, #Hd⟩
  unfold owesAny
  icases HO with ⟨%W, HO⟩
  iapply (Rounds.wp_signal 𝒱₀ ER (Rd m ρ) (c : Thread nD τ) none (dst := (partner c : Thread nD τ)) (κ := K (partner c, kB))
    (d := q c) (by rw [duties_bar]; exact Finset.mem_univ _) ((amount_bar m ρ (partner c) (q c)).trans (by decide)) () O rfl) $$ [HO Ht Hl]
  · isplitr; · iexact HI
    isplitl [HO]; · iexact HO
    isplitl [Ht]; · iexact Ht
    isplitl [Hl]
    · rw [payload_bar, q_partner]
      have h : peer (partner c) (q c) = c := by have := peer_peer c (q c); rwa [peer_self] at this
      rw [h]; iexact Hl
    iexact Hd
  iintro HO
  iapply Hk; iexists W; iexact HO

/-- One group transfer: the device's pair rows into its own slot on the group's device at place `r`. -/
theorem send_group (n : Dev nD) (hn : n = zpeer c r) (hr : r ≠ q c) (off : Fin 3 → Nat) (hoff : off = ![(q c).val, 0, 0])
    (s s' : DmaSem sig) (hs : s = sS r) (hs' : s' = vS (q c)) (O : CellTallies nD τ sig Unit)
    (inb : ∀ a, off a + S1x2x512.size a ≤ S4x2x512.size a) {hst}
    {hsc} {hsrc hdst hsem}
    {α : Type} {Q : α → sProp 𝕄} {k : PUnit → Prog (TpuEff nD τ sig (Elt F) Λ₀ .tc) α} :
    iprop(records m ρ K ∗ pairPts (quarter r) c (pairpart m ρ c) ∗ (∃ f, slotPts (zpeer c r) (q c) f)
        ∗ dutyTok ER (vCell (zpeer c r) (q c)) 0 0 ∗ dutyTok ER (sCell c r) 0 0 ∗ owesAny c (O + tallyAt (vCell (zpeer c r) (q c)) () N))
      ⊢ iprop(((cred (tallyAt (sCell c r) () N) ∗ owesAny c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pairM (.remote (Dev.tc n : Thread nD τ)
                ((gM.slice (Rect.unit (s := S4x2x512) off S1x2x512.size inb) hst).squeeze S2x512 squeezes_S1x2x512_S2x512) (.dma s) hsc) (.dma s') hsrc hdst hsem) k) Q) := by
  subst hn hoff hs hs'
  iintro ⟨#HR, Hp, ⟨%f, Hd⟩, Htv, Hts, HO⟩ Hk
  ihave Hr1 := (records_at m ρ K (c, kS r)) $$ HR
  icases Hr1 with ⟨#HI1, #Hd1⟩
  ihave Hr2 := (records_at m ρ K (zpeer c r, kV (q c))) $$ HR
  icases Hr2 with ⟨#HI2, #Hd2⟩
  unfold owesAny
  icases HO with ⟨%W, HO⟩
  iapply (Rounds.wp_send_pointsTo 𝒱₀ ER (Rd m ρ) (c : Thread nD τ) none (src := pairM) (dst := slotM (q c)) (c' := (zpeer c r : Thread nD τ))
    (sS := .dma (sS r)) (sem := .dma (vS (q c))) (κ₁ := K (c, kS r)) (κ₂ := K (zpeer c r, kV (q c)))
    (r₁ := 0) (r₂ := 0) (d₁ := 0) (d₂ := 0) (fd := f) (fs := pairpart m ρ c) (q := quarter r)
    (by rw [duties_s m ρ c r hr]; exact Finset.mem_singleton_self _)
    (by rw [duties_v m ρ (zpeer c r) (q c) (by rw [q_zpeer]; exact fun h => hr h.symm)]; exact Finset.mem_singleton_self _)
    () () N rfl (amount_dma m ρ c _ 0) (amount_dma m ρ (zpeer c r) _ 0) O rfl (W := W)
    (by rw [payload_s])
    (by rw [payload_v, View.read_whole]
        refine Entails.of_eq (pointsTo_congr fun i hi => ?_)
        have h := landed_slot m ρ (zpeer c r) (q c) f i hi
        rw [zpeer_zpeer, zpeer_self] at h
        exact h)) $$ [Hp Hd Htv Hts HO]
  · isplitr; · iexact HI1
    isplitr; · iexact HI2
    isplitl [Hp]; · iexact Hp
    isplitl [Hd]; · iexact Hd
    isplitl [HO]; · iexact HO
    isplitl [Hts]; · iexact Hts
    isplitr; · iexact Hd1
    isplitl [Htv]; · iexact Htv
    iexact Hd2
  iintro ⟨Hc, HO⟩
  iapply Hk
  isplitl [Hc]; · iexact Hc
  iexists W; iexact HO

/-- The same guarded: nothing is sent to the device itself, whose share of the pair rows stays. -/
theorem guard_send {p : Prop} [Decidable p] (hp : p ↔ r ≠ q c) {n : p → Dev nD} (hn : ∀ h, n h = zpeer c r)
    (off : Fin 3 → Nat) (hoff : off = ![(q c).val, 0, 0]) {s : DmaSem sig} {s' : p → DmaSem sig} (hs : s = sS r) (hs' : ∀ h, s' h = vS (q c))
    {inb : p → ∀ a, off a + S1x2x512.size a ≤ S4x2x512.size a} {hst : ∀ h : p, ∀ a, (Rect.unit (s := S4x2x512) off S1x2x512.size (inb h)).stride a = 1}
    (O : CellTallies nD τ sig Unit) {hsc : ∀ h : p, ((gM.slice (Rect.unit (s := S4x2x512) off S1x2x512.size (inb h)) (hst h)).squeeze S2x512 squeezes_S1x2x512_S2x512).view.ref.isScScratch = false} {hsrc : p → _} {hdst : ∀ h : p, ((gM.slice (Rect.unit (s := S4x2x512) off S1x2x512.size (inb h)) (hst h)).squeeze S2x512 squeezes_S1x2x512_S2x512).view.WordExact} {hsem : ∀ h : p, DmaTarget.Typed .vmem (.dma (s' h)) (.remote (Dev.tc (n h) : Thread nD τ)
                ((gM.slice (Rect.unit (s := S4x2x512) off S1x2x512.size (inb h)) (hst h)).squeeze S2x512 squeezes_S1x2x512_S2x512) (.dma s) (hsc h))}
    {α : Type} {Q : α → sProp 𝕄} {k' : Prog (TpuEff nD τ sig (Elt F) Λ₀ .tc) α} :
    iprop(records m ρ K ∗ pairPts (quarter r) c (pairpart m ρ c) ∗ (if r = q c then iprop(emp) else iprop(∃ f, slotPts (zpeer c r) (q c) f))
        ∗ dutyTok ER (vCell (peer c r) (q c)) 0 0 ∗ dutyTok ER (sCell c r) 0 0 ∗ owesAny c (O + o2 c r))
      ⊢ iprop((((if r = q c then pairPts (quarter r) c (pairpart m ρ c) else cred (tallyAt (sCell c r) () N)) ∗ owesAny c O)
            -∗ wp frame (wpE (defs₀ (F := F)) 𝒱₀ (c : Thread nD τ) none) Set.univ k' Q)
          -∗ wp frame (wpE (defs₀ (F := F)) 𝒱₀ (c : Thread nD τ) none) Set.univ
              (dite p (fun h => .op (.enqueueDma pairM (.remote (Dev.tc (n h) : Thread nD τ)
                ((gM.slice (Rect.unit (s := S4x2x512) off S1x2x512.size (inb h)) (hst h)).squeeze S2x512 squeezes_S1x2x512_S2x512) (.dma s) (hsc h)) (.dma (s' h)) (hsrc h) (hdst h) (hsem h)) (fun _ => k')) (fun _ => k')) Q) := by
  by_cases hr : r = q c
  · rw [dif_neg (fun h => hp.mp h hr), if_pos hr, if_pos hr, show O + o2 c r = O by unfold o2; rw [if_pos hr]; exact add_zero O]
    iintro ⟨-, Hp, -, -, -, HO⟩ Hk
    iapply Hk
    isplitl [Hp] <;> iassumption
  · have h := hp.mpr hr
    rw [dif_pos h, if_neg hr, if_neg hr, peer_of_ne hr, show o2 c r = tallyAt (vCell (zpeer c r) (q c)) () N from if_neg hr]
    exact send_group m ρ K c r (n h) (hn h) hr off hoff s (s' h) hs (hs' h) O (inb h) (k := fun _ => k')

/-- The waits for the group's device at place `r`: its rows in slot `r`, and the share of the pair rows back; both cells
    close at zero. -/
theorem guard_wait {p : Prop} [Decidable p] (hp : p ↔ r ≠ q c) {s s' : DmaSem sig} (hs : s = sS r) (hs' : s' = vS r)
    {M M' : Memref sig .tc .vmem S2x512 .f32} {h1 : p → _} {h2 : p → _} {h3 : p → _} {h4 : p → _}
    {α : Type} {Q : α → sProp 𝕄} {k' : Prog (TpuEff nD τ sig (Elt F) Λ₀ .tc) α} :
    iprop(records m ρ K ∗ (if r = q c then pairPts (quarter r) c (pairpart m ρ c) else cred (tallyAt (sCell c r) () N))
        ∗ (if r = q c then slotPts c r (gath m ρ c) else cred (tallyAt (vCell c r) () (if r = q c then 0 else N)))
        ∗ atPos ER (sCell c r) 0 ∅ 0 ∗ atPos ER (vCell c r) 0 ∅ 0 ∗ owesAny c 0)
      ⊢ iprop(((pairPts (quarter r) c (pairpart m ρ c) ∗ slotPts c r (gath m ρ c) ∗ semVal (sCell c r) 0 ∗ semVal (vCell c r) 0 ∗ owesAny c 0)
            -∗ wp frame (wpE (defs₀ (F := F)) 𝒱₀ (c : Thread nD τ) none) Set.univ k' Q)
          -∗ wp frame (wpE (defs₀ (F := F)) 𝒱₀ (c : Thread nD τ) none) Set.univ
              (dite p (fun h => .op (.waitDma2 s' pairM M (h1 h) (h2 h)) (fun _ => .op (.waitDma2 s M' pairM (h3 h) (h4 h)) (fun _ => k'))) (fun _ => k')) Q) := by
  subst hs hs'
  by_cases hr : r = q c
  · rw [dif_neg (fun h => hp.mp h hr), if_pos hr, if_pos hr]
    iintro ⟨#HR, Hp, Hv, Has, Hav, HO⟩ Hk
    ihave Hr1 := (records_at m ρ K (c, kS r)) $$ HR
    icases Hr1 with ⟨#HI1, #Hd1⟩
    ihave Hr2 := (records_at m ρ K (c, kV r)) $$ HR
    icases Hr2 with ⟨#HI2, #Hd2⟩
    imod (Rounds.cell_close ER (Rd m ρ) (Set.mem_univ (K (c, kS r))) (fun h => h) (R := 0) (duties_s_self m ρ c r hr)) $$ [Has] with HzS
    · isplitr; · iexact HI1
      iexact Has
    imod (Rounds.cell_close ER (Rd m ρ) (Set.mem_univ (K (c, kV r))) (fun h => h) (R := 0) (duties_v_self m ρ c r hr)) $$ [Hav] with HzV
    · isplitr; · iexact HI2
      iexact Hav
    iapply Hk
    isplitl [Hp]; · iexact Hp
    isplitl [Hv]; · iexact Hv
    isplitl [HzS]; · iexact HzS
    isplitl [HzV] <;> iassumption
  · have h := hp.mpr hr
    rw [dif_pos h, if_neg hr, if_neg hr, if_neg hr]
    iintro ⟨#HR, Hp, Hv, Has, Hav, HO⟩ Hk
    ihave Hr1 := (records_at m ρ K (c, kS r)) $$ HR
    icases Hr1 with ⟨#HI1, #Hd1⟩
    ihave Hr2 := (records_at m ρ K (c, kV r)) $$ HR
    icases Hr2 with ⟨#HI2, #Hd2⟩
    unfold owesAny
    icases HO with ⟨%W, HO⟩
    iapply (Rounds.wp_wait_rest_token 𝒱₀ ER (Rd m ρ) (c : Thread nD τ) none (κ := K (c, kV r))
      (wpE_waitDma2_eq 𝒱₀ (c : Thread nD τ) none Set.univ) (Set.mem_univ _) () (O := 0) (W := W) (R := 0) (m := 0) (T := ∅)
      (by rw [Nat.zero_add, expect_dma m ρ c _ (duties_v m ρ c r hr)])) $$ [Hv HO Hav]
    · isplitr; · iexact HI2
      isplitl [Hv]; · iexact Hv
      isplitl [HO]; · iexact HO
      isplitr; · rw [MayWait_zero]; iempintro
      iexact Hav
    iintro ⟨HO, Hav, -, Hpay⟩
    ihave Hv := (Entails.of_eq ((rest_dma m ρ c _ (duties_v m ρ c r hr)).trans (payload_v m ρ c r 0))) $$ Hpay
    iapply (Rounds.wp_wait_rest_token 𝒱₀ ER (Rd m ρ) (c : Thread nD τ) none (κ := K (c, kS r))
      (wpE_waitDma2_eq 𝒱₀ (c : Thread nD τ) none Set.univ) (Set.mem_univ _) () (O := 0) (W := insert (SemLoc.dma (vS r), ()) W) (R := 0) (m := 0) (T := ∅)
      (by rw [Nat.zero_add, expect_dma m ρ c _ (duties_s m ρ c r hr)])) $$ [Hp HO Has]
    · isplitr; · iexact HI1
      isplitl [Hp]; · iexact Hp
      isplitl [HO]; · iexact HO
      isplitr; · rw [MayWait_zero]; iempintro
      iexact Has
    iintro ⟨HO, Has, -, Hpay⟩
    ihave Hp := (Entails.of_eq ((rest_dma m ρ c _ (duties_s m ρ c r hr)).trans (payload_s m ρ c r 0))) $$ Hpay
    imod (Rounds.cell_close ER (Rd m ρ) (Set.mem_univ (K (c, kS r))) (fun h => h) (R := 0 + 1) (duties_later m ρ (sCell c r))) $$ [Has] with HzS
    · isplitr; · iexact HI1
      iexact Has
    imod (Rounds.cell_close ER (Rd m ρ) (Set.mem_univ (K (c, kV r))) (fun h => h) (R := 0 + 1) (duties_later m ρ (vCell c r))) $$ [Hav] with HzV
    · isplitr; · iexact HI2
      iexact Hav
    iapply Hk
    isplitl [Hp]; · iexact Hp
    isplitl [Hv]; · iexact Hv
    isplitl [HzS]; · iexact HzS
    isplitl [HzV]; · iexact HzV
    iexists _; iexact HO

end Guards

end Cert.KernelIdealProof

end
-- ==== Proof.KernelIdeal.Body.lean ====
/-
# The kernel's body

The body on one device, run from what the launch leaves it: the four signals, the exchange with the partner, the
exchange with the group, and the two rows of the result.  The three stretches of the program are proved one by one,
each with its own statement, and joined at the end.
-/
module

public import proofs.«01_k».proof.Proof.KernelIdeal.Guards

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers whole -/

abbrev xPts (c : Dev nD) : sProp 𝕄 := ((c : Thread nD τ).loc cc0_stg0_0) ↦{fullShare} (xstg m ρ c)
abbrev wPts (c : Dev nD) (b : Ref sig .tc) (f : b.ty.Contents (Elt F)) : sProp 𝕄 := ((c : Thread nD τ).loc b) ↦{fullShare} f

omit [FloatOps F] in
theorem partPts_eq (c : Dev nD) (f) : (partPts c f : sProp 𝕄) = wPts c cc0_scratch0 f := by
  exact congrArg (fun S => (((c : Thread nD τ).loc cc0_scratch0) ↦[S]{fullShare} f : sProp 𝕄)) (View.set_whole cc0_scratch0)
omit [FloatOps F] in
theorem inPts_eq (c : Dev nD) (f) : (inPts c f : sProp 𝕄) = wPts c cc0_scratch1 f := by
  exact congrArg (fun S => (((c : Thread nD τ).loc cc0_scratch1) ↦[S]{fullShare} f : sProp 𝕄)) (View.set_whole cc0_scratch1)
omit [FloatOps F] in
theorem pairPts_eq (c : Dev nD) (f) : (pairPts fullShare c f : sProp 𝕄) = wPts c cc0_scratch2 f := by
  exact congrArg (fun S => (((c : Thread nD τ).loc cc0_scratch2) ↦[S]{fullShare} f : sProp 𝕄)) (View.set_whole cc0_scratch2)
omit [FloatOps F] in
/-- The gathering buffer is its four slots. -/
theorem slots_eq (c : Dev nD) (f : (cc0_scratch3 : Ref sig .tc).ty.Contents (Elt F)) :
    (wPts c cc0_scratch3 f : sProp 𝕄) = bigSep Finset.univ fun r : Fin 4 => slotPts c r f := by
  refine Eq.trans ?_ (pointsTo_biUnion (ℓ := (c : Thread nD τ).loc cc0_scratch3) (q := fullShare) (f := f)
    Finset.univ (fun r : Fin 4 => ((slotM r).view.set : Finset S4x2x512.Idx)) slots_disjoint)
  exact congrArg (fun S => (((c : Thread nD τ).loc cc0_scratch3) ↦[S]{fullShare} f : sProp 𝕄)) slots_cover.symm
omit [FloatOps F] in
/-- The pair rows are their four quarter shares. -/
theorem quarters_eq (c : Dev nD) (f : (cc0_scratch2 : Ref sig .tc).ty.Contents (Elt F)) :
    (pairPts fullShare c f : sProp 𝕄) = bigSep Finset.univ fun r : Fin 4 => pairPts (quarter r) c f := by
  rw [fin4]
  have h (s : PosShare TreeShare) : (pairPts s c f : sProp 𝕄) = iprop(pairPts s.left c f ∗ pairPts s.right c f) :=
    Entails.antisymm (pointsTo_share (PosShare.mem_left_op_right s)).1 (pointsTo_share (PosShare.mem_left_op_right s)).2
  show (pairPts fullShare c f : sProp 𝕄) = iprop(pairPts fullShare.left.left c f ∗ pairPts fullShare.left.right c f
    ∗ pairPts fullShare.right.left c f ∗ pairPts fullShare.right.right c f)
  rw [h fullShare, h fullShare.left, h fullShare.right]
  exact Entails.antisymm (Laws.sep_assoc (PROP := sProp 𝕄)).1 (Laws.sep_assoc (PROP := sProp 𝕄)).2

/-! ## The three stretches -/

section Parts
variable (K : Dev nD × Fin 11 → ℕ) (c : Dev nD)

/-- The device's place modulo eight as the program computes it. -/
abbrev devWord : BitVec 32 := Scalar.remsi (Scalar.divsi (Dev.word c) 1#32) 8#32

omit [FloatOps F] in
theorem read_x (f : (cc0_stg0_0 : Ref sig .tc).ty.Contents (Elt F)) :
    (xM : Memref sig .tc .vmem S1024x512 .bf16).view.readAt (Elt F) (Rect.unit (s := S1024x512) ![0, 0] S1024x512.size inb_S1024x512_S1024x512_0_0).toLoadRect f = f :=
  Memref.readAt_unit_zero (Elt F) cc0_stg0_0 hz2 _ f

set_option maxHeartbeats 2000000 in
/-- The signals: everything lent to the four devices the kernel talks to; then the block is loaded. -/
theorem sound_part1 (Kt : _ → sProp 𝕄) :
    iprop(records m ρ K ∗ (bigSep Finset.univ fun r : Fin 4 => iprop(dutyTok ER (barCell (peer c r)) 0 (q c) ∗ lend c r))
        ∗ owesAny c (O₀ c) ∗ xPts m ρ c
        ∗ ((owesAny c (P0 c) ∗ xPts m ρ c) -∗ Kt ⟨c, placeWord c, Scalar.subi (devWord c) (placeWord c), Scalar.remsi (Scalar.addi (devWord c) 4#32) 8#32,
            SemArray.scalar (sig.barrier 0 rfl), k0_pay4 (xstg m ρ c), k0_pay5 c (xstg m ρ c)⟩))
      ⊢ wp frame (wpE (defs₀ (F := F)) 𝒱₀ (c : Thread nD τ) none) Set.univ
          (k0_part1 (F := F) xM (Memref.isWhole_whole _) oM (Memref.isWhole_whole _) partM (Memref.isWhole_whole _) inM (Memref.isWhole_whole _)
            pairM (Memref.isWhole_whole _) gM (Memref.isWhole_whole _) cc0_scratch4 cc0_scratch5 cc0_scratch6 cc0_scratch7) Kt := by
  simp only [k0_part1_eq_skeleton]; unfold k0_part1_skel
  simp -zeta only [semSignalWord, semWaitWord, Prog.lift, Prog.bind_op, Prog.bind_ret, Prog.pure_eq_ret, wp_deviceId]
  rw [take4 (q c), fin4, peer_self]
  iintro ⟨#HR, ⟨H, H0, H1, H2, H3⟩, HO, Hx, Hk⟩
  iapply (step_deviceId c)
  unfold O₀
  iapply (signal_partner m ρ K c (dev1_eq c _) (B0 c)) $$ [HO H]
  · isplitr; · iexact HR
    isplitl [H]; · iexact H
    iexact HO
  iintro HO
  iapply (guard_signal m ρ K c 0 (cond1_iff c) (fun h => dev2_eq c (k0_dev2_lt c h)) (B1 c)) $$ [HO H0]
  · isplitr; · iexact HR
    isplitl [H0]; · iexact H0
    iexact HO
  iintro HO
  iapply (guard_signal m ρ K c 1 (cond2_iff c) (fun h => dev3_eq c (k0_dev3_lt c h)) (B2 c)) $$ [HO H1]
  · isplitr; · iexact HR
    isplitl [H1]; · iexact H1
    iexact HO
  iintro HO
  iapply (guard_signal m ρ K c 2 (cond3_iff c) (fun h => dev4_eq c (k0_dev4_lt c h)) (B3 c)) $$ [HO H2]
  · isplitr; · iexact HR
    isplitl [H2]; · iexact H2
    iexact HO
  iintro HO
  iapply (guard_signal m ρ K c 3 (cond4_iff c) (fun h => dev5_eq c (k0_dev5_lt c h)) (P0 c)) $$ [HO H3]
  · isplitr; · iexact HR
    isplitl [H3]; · iexact H3
    iexact HO
  iintro HO
  iapply (wp_load 𝒱₀ (c : Thread nD τ) none Set.univ (m := xM) (Finset.subset_univ _)) $$ Hx; iintro Hx
  rw [read_x, wp_ret]; imodintro
  iapply Hk
  isplitl [HO] <;> iassumption

omit [FloatOps F] in
/-- What the barrier's wait brings: the partner's landing buffer, and the slots lent by the rest of the group. -/
theorem lent_eq : (bigSep Finset.univ fun d : Fin 4 => lend (F := F) (peer c d) (q c))
    = iprop((∃ f, inPts (partner c) f) ∗ bigSep Finset.univ fun r : Fin 4 => if r = q c then iprop(emp) else iprop(∃ f, slotPts (zpeer c r) (q c) f)) := by
  rw [take4 (q c), peer_self]
  congr 1
  · unfold lend; rw [if_pos (q_partner c).symm]
  · refine bigSep_congr fun r _ => ?_
    by_cases h : r = q c
    · rw [if_pos h, if_pos h]
    · rw [if_neg h, if_neg h, peer_of_ne h]; unfold lend; rw [if_neg (by rw [q_zpeer]; exact fun h' => h h'.symm)]

omit [FloatOps F] in
theorem read_part0 (a b : FVec F S1x512 .f32) : (partM : Memref sig .tc .vmem S2x512 .f32).view.readAt (Elt F) row0.toLoadRect (rowsOf a b) = a := rowsOf_row0 a b
omit [FloatOps F] in
theorem read_part1 (a b : FVec F S1x512 .f32) : (partM : Memref sig .tc .vmem S2x512 .f32).view.readAt (Elt F) row1.toLoadRect (rowsOf a b) = b := rowsOf_row1 a b
omit [FloatOps F] in
theorem read_in0 (a b : FVec F S1x512 .f32) : (inM : Memref sig .tc .vmem S2x512 .f32).view.readAt (Elt F) row0.toLoadRect (rowsOf a b) = a := rowsOf_row0 a b
omit [FloatOps F] in
theorem read_in1 (a b : FVec F S1x512 .f32) : (inM : Memref sig .tc .vmem S2x512 .f32).view.readAt (Elt F) row1.toLoadRect (rowsOf a b) = b := rowsOf_row1 a b
omit [FloatOps F] in
theorem read_pair (f : (cc0_scratch2 : Ref sig .tc).ty.Contents (Elt F)) :
    (pairM : Memref sig .tc .vmem S2x512 .f32).view.readAt (Elt F) (Rect.unit (s := S2x512) ![0, 0] S2x512.size inb_S2x512_S2x512_0_0).toLoadRect f = f :=
  Memref.readAt_unit_zero (Elt F) cc0_scratch2 hz2 _ f
omit [FloatOps F] in
theorem stored_part (a b : FVec F S1x512 .f32) (f : (cc0_scratch0 : Ref sig .tc).ty.Contents (Elt F)) :
    ((partM : Memref sig .tc .vmem S2x512 .f32).access row1).write (Elt F) (((partM : Memref sig .tc .vmem S2x512 .f32).access row0).write (Elt F) f a Finset.univ) b Finset.univ
      = rowsOf a b := (write_rows a b (View.whole cc0_scratch0) f).trans (View.write_whole_univ _ _ _)
omit [FloatOps F] in
theorem stored_pair (a b : FVec F S1x512 .f32) (f : (cc0_scratch2 : Ref sig .tc).ty.Contents (Elt F)) :
    ((pairM : Memref sig .tc .vmem S2x512 .f32).access row1).write (Elt F) (((pairM : Memref sig .tc .vmem S2x512 .f32).access row0).write (Elt F) f a Finset.univ) b Finset.univ
      = rowsOf a b := (write_rows a b (View.whole cc0_scratch2) f).trans (View.write_whole_univ _ _ _)
omit [FloatOps F] in
theorem stored_out (a b : FVec F S1x512 .f32) (f : (cc0_stg1_0 : Ref sig .tc).ty.Contents (Elt F)) :
    ((oM : Memref sig .tc .vmem S2x512 .f32).access row1).write (Elt F) (((oM : Memref sig .tc .vmem S2x512 .f32).access row0).write (Elt F) f a Finset.univ) b Finset.univ
      = rowsOf a b := (write_rows a b (View.whole cc0_stg1_0) f).trans (View.write_whole_univ _ _ _)

/-- The transfer to the partner. -/
theorem send_pair (n : Dev nD) (hn : n = partner c) (s s' : DmaSem sig) (hs : s = pS) (hs' : s' = pV) {hsc} {hsrc hdst hsem}
    {α : Type} {Q : α → sProp 𝕄} {k : PUnit → Prog (TpuEff nD τ sig (Elt F) Λ₀ .tc) α} :
    iprop(records m ρ K ∗ wPts c cc0_scratch0 (part m ρ c) ∗ (∃ f, inPts (partner c) f)
        ∗ dutyTok ER (pVCell (partner c)) 0 0 ∗ dutyTok ER (pSCell c) 0 0 ∗ owesAny c (P0 c))
      ⊢ iprop(((cred (tallyAt (pSCell c) () N) ∗ owesAny c (S0 c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) inM (.dma s) hsc) (.dma s') hsrc hdst hsem) k) Q) := by
  subst hn hs hs'
  rw [← partPts_eq]
  iintro ⟨#HR, Hp, ⟨%f, Hd⟩, Htv, Hts, HO⟩ Hk
  ihave Hr1 := (records_at m ρ K (c, kpS)) $$ HR
  icases Hr1 with ⟨#HI1, #Hd1⟩
  ihave Hr2 := (records_at m ρ K (partner c, kpV)) $$ HR
  icases Hr2 with ⟨#HI2, #Hd2⟩
  unfold owesAny
  icases HO with ⟨%W, HO⟩
  iapply (Rounds.wp_send_pointsTo 𝒱₀ ER (Rd m ρ) (c : Thread nD τ) none (src := partM) (dst := inM) (c' := (partner c : Thread nD τ))
    (sS := .dma pS) (sem := .dma pV) (κ₁ := K (c, kpS)) (κ₂ := K (partner c, kpV))
    (r₁ := 0) (r₂ := 0) (d₁ := 0) (d₂ := 0) (fd := f) (fs := part m ρ c) (q := fullShare)
    (by rw [duties_pS]; exact Finset.mem_singleton_self _) (by rw [duties_pV]; exact Finset.mem_singleton_self _)
    () () N rfl (amount_dma m ρ c _ 0) (amount_dma m ρ (partner c) _ 0) (S0 c) rfl (W := W)
    (by rw [payload_pS])
    (by rw [payload_pV, partner_partner, View.read_whole]
        exact Entails.of_eq (congrArg (inPts (partner c)) (View.write_whole_univ _ _ _)))) $$ [Hp Hd Htv Hts HO]
  · isplitr; · iexact HI1
    isplitr; · iexact HI2
    isplitl [Hp]; · iexact Hp
    isplitl [Hd]; · iexact Hd
    isplitl [HO]; · iexact HO
    isplitl [Hts]; · iexact Hts
    isplitr; · iexact Hd1
    isplitl [Htv]; · iexact Htv
    iexact Hd2
  iintro ⟨Hc, HO⟩
  iapply Hk
  isplitl [Hc]; · iexact Hc
  iexists W; iexact HO

set_option maxHeartbeats 2000000 in
/-- The exchange with the partner: the device's two rows are written and sent, the partner's come, and the pair's two rows
    are written. -/
theorem sound_part2 (v6 : BitVec 32) (Kt : _ → sProp 𝕄) :
    iprop(records m ρ K ∗ levAts L lv
        ∗ (atPos ER (barCell c) 0 ∅ 0 ∗ atPos ER (pSCell c) 0 ∅ 0 ∗ atPos ER (pVCell c) 0 ∅ 0)
        ∗ (cred (tallyAt (barCell c) () 4) ∗ cred (tallyAt (pVCell c) () N))
        ∗ (dutyTok ER (pVCell (partner c)) 0 0 ∗ dutyTok ER (pSCell c) 0 0)
        ∗ (∃ f, wPts c cc0_scratch0 f) ∗ (∃ f, wPts c cc0_scratch2 f) ∗ owesAny c (P0 c)
        ∗ ((wPts c cc0_scratch0 (part m ρ c) ∗ wPts c cc0_scratch1 (part m ρ (partner c)) ∗ wPts c cc0_scratch2 (pairpart m ρ c)
            ∗ (bigSep Finset.univ fun r : Fin 4 => if r = q c then iprop(emp) else iprop(∃ f, slotPts (zpeer c r) (q c) f))
            ∗ (semVal (barCell c) 0 ∗ semVal (pSCell c) 0 ∗ semVal (pVCell c) 0) ∗ owesAny c (S0 c)) -∗ Kt (k0_pay10 (pairpart m ρ c))))
      ⊢ wp frame (wpE (defs₀ (F := F)) 𝒱₀ (c : Thread nD τ) none) Set.univ
          (k0_part2 (F := F) xM (Memref.isWhole_whole _) oM (Memref.isWhole_whole _) partM (Memref.isWhole_whole _) inM (Memref.isWhole_whole _)
            pairM (Memref.isWhole_whole _) gM (Memref.isWhole_whole _) cc0_scratch4 cc0_scratch5 cc0_scratch6 cc0_scratch7
            c v6 (SemArray.scalar (sig.barrier 0 rfl)) (k0_pay4 (xstg m ρ c)) (k0_pay5 c (xstg m ρ c))) Kt := by
  simp only [k0_part2_eq_skeleton]; unfold k0_part2_skel
  simp only [semSignalWord, semWaitWord, Prog.lift, Prog.bind_op, Prog.bind_ret, Prog.pure_eq_ret]
  iintro ⟨#HR, #Hlev, ⟨HaB, HaS, HaV⟩, ⟨HcB, HcV⟩, ⟨HtV, HtS⟩, ⟨%f0, Hp⟩, ⟨%f2, Hq⟩, HO, Hk⟩
  -- the device's own two rows
  iapply (wp_load 𝒱₀ (c : Thread nD τ) none Set.univ (m := partM) (Finset.subset_univ _)) $$ Hp; iintro Hp
  iapply (wp_store 𝒱₀ (c : Thread nD τ) none Set.univ (m := partM) (r := row0) (Mk := Finset.univ) (Finset.subset_univ _)) $$ Hp; iintro Hp
  iapply (wp_load 𝒱₀ (c : Thread nD τ) none Set.univ (m := partM) (Finset.subset_univ _)) $$ Hp; iintro Hp
  iapply (wp_store 𝒱₀ (c : Thread nD τ) none Set.univ (m := partM) (r := row1) (Mk := Finset.univ) (Finset.subset_univ _)) $$ Hp; iintro Hp
  rw [stored_part]
  -- the barrier's wait
  ihave Hrec := (records_at m ρ K (c, kB)) $$ HR
  icases Hrec with ⟨#HIB, -⟩
  ihave Hrec := (records_at m ρ K (c, kpS)) $$ HR
  icases Hrec with ⟨#HIS, -⟩
  ihave Hrec := (records_at m ρ K (c, kpV)) $$ HR
  icases Hrec with ⟨#HIV, -⟩
  ihave HO := (show owesAny c (P0 c) ⊢ (iprop(∃ W, owes (c : Thread nD τ) (P0 c) W) : sProp 𝕄) from Entails.refl _) $$ HO
  icases HO with ⟨%W, HO⟩
  iapply (Rounds.wp_wait_rest_token 𝒱₀ ER (Rd m ρ) (c : Thread nD τ) none (κ := K (c, kB))
      (wpE_semWait_eq 𝒱₀ (c : Thread nD τ) none Set.univ) (Set.mem_univ _) () (O := P0 c) (W := W) (R := 0) (m := 0) (T := ∅)
      (by rw [expect_bar]; decide)) $$ [HcB HO HaB]
  · isplitr; · iexact HIB
    isplitl [HcB]; · iexact HcB
    isplitl [HO]; · iexact HO
    isplitr; · iapply (mayWait_bar c); iexact Hlev
    iexact HaB
  iintro ⟨HO, HaB, -, Hpay⟩
  ihave Hpay := (Entails.of_eq ((rest_bar m ρ c).trans (lent_eq c))) $$ Hpay
  icases Hpay with ⟨Hin, Hsl⟩
  ihave HO := (show (owes (c : Thread nD τ) (P0 c) _ : sProp 𝕄) ⊢ owesAny c (P0 c) from by unfold owesAny; iintro H; iexists _; iexact H) $$ HO
  -- the transfer
  iapply (send_pair m ρ K c _ (dev6_eq c _) _ _ sem_pS sem_pV) $$ [Hp Hin HtV HtS HO]
  · isplitr; · iexact HR
    isplitl [Hp]; · iexact Hp
    isplitl [Hin]; · iexact Hin
    isplitl [HtV]; · iexact HtV
    isplitl [HtS]; · iexact HtS
    iexact HO
  iintro ⟨HcS, HO⟩
  ihave HO := (show owesAny c (S0 c) ⊢ (iprop(∃ W, owes (c : Thread nD τ) (S0 c) W) : sProp 𝕄) from Entails.refl _) $$ HO
  icases HO with ⟨%W', HO⟩
  -- its send cell, its receive cell
  iapply (Rounds.wp_wait_rest_token 𝒱₀ ER (Rd m ρ) (c : Thread nD τ) none (sm := .dma pS) (κ := K (c, kpS))
      (wpE_waitDma2_eq 𝒱₀ (c : Thread nD τ) none Set.univ) (Set.mem_univ _) () (O := S0 c) (W := W') (R := 0) (m := 0) (T := ∅)
      (by rw [Nat.zero_add]; exact (expect_dma m ρ c pS (duties_pS m ρ c)).symm)) $$ [HcS HO HaS]
  · isplitr; · iexact HIS
    isplitl [HcS]; · iexact HcS
    isplitl [HO]; · iexact HO
    isplitr; · iapply (mayWait_pair c pS (by decide)); iexact Hlev
    iexact HaS
  iintro ⟨HO, HaS, -, Hpay⟩
  ihave Hp := (Entails.of_eq (((rest_dma m ρ c pS (duties_pS m ρ c)).trans (payload_pS m ρ c 0)).trans (partPts_eq c _))) $$ Hpay
  iapply (Rounds.wp_wait_rest_token 𝒱₀ ER (Rd m ρ) (c : Thread nD τ) none (sm := .dma pV) (κ := K (c, kpV))
      (wpE_waitDma2_eq 𝒱₀ (c : Thread nD τ) none Set.univ) (Set.mem_univ _) () (O := S0 c) (W := insert (SemLoc.dma pS, ()) W') (R := 0) (m := 0) (T := ∅)
      (by rw [Nat.zero_add]; exact (expect_dma m ρ c pV (duties_pV m ρ c)).symm)) $$ [HcV HO HaV]
  · isplitr; · iexact HIV
    isplitl [HcV]; · iexact HcV
    isplitl [HO]; · iexact HO
    isplitr; · iapply (mayWait_pair c pV (by decide)); iexact Hlev
    iexact HaV
  iintro ⟨HO, HaV, -, Hpay⟩
  ihave Hi := (Entails.of_eq (((rest_dma m ρ c pV (duties_pV m ρ c)).trans (payload_pV m ρ c 0)).trans (inPts_eq c _))) $$ Hpay
  imod (Rounds.cell_close ER (Rd m ρ) (Set.mem_univ (K (c, kB))) (fun h => h) (R := 0 + 1) (duties_later m ρ (barCell c))) $$ [HaB] with HzB
  · isplitr; · iexact HIB
    iexact HaB
  imod (Rounds.cell_close ER (Rd m ρ) (Set.mem_univ (K (c, kpS))) (fun h => h) (R := 0 + 1) (duties_later m ρ (pSCell c))) $$ [HaS] with HzS
  · isplitr; · iexact HIS
    iexact HaS
  imod (Rounds.cell_close ER (Rd m ρ) (Set.mem_univ (K (c, kpV))) (fun h => h) (R := 0 + 1) (duties_later m ρ (pVCell c))) $$ [HaV] with HzV
  · isplitr; · iexact HIV
    iexact HaV
  -- the pair's two rows
  unfold part
  iapply (wp_load 𝒱₀ (c : Thread nD τ) none Set.univ (m := partM) (Finset.subset_univ _)) $$ Hp; iintro Hp
  rw [read_part0]
  iapply (wp_load 𝒱₀ (c : Thread nD τ) none Set.univ (m := partM) (Finset.subset_univ _)) $$ Hp; iintro Hp
  rw [read_part1]
  iapply (wp_load 𝒱₀ (c : Thread nD τ) none Set.univ (m := inM) (Finset.subset_univ _)) $$ Hi; iintro Hi
  rw [read_in0]
  iapply (wp_load 𝒱₀ (c : Thread nD τ) none Set.univ (m := inM) (Finset.subset_univ _)) $$ Hi; iintro Hi
  rw [read_in1]
  iapply (wp_load 𝒱₀ (c : Thread nD τ) none Set.univ (m := pairM) (Finset.subset_univ _)) $$ Hq; iintro Hq
  iapply (wp_store 𝒱₀ (c : Thread nD τ) none Set.univ (m := pairM) (r := row0) (Mk := Finset.univ) (Finset.subset_univ _)) $$ Hq; iintro Hq
  iapply (wp_load 𝒱₀ (c : Thread nD τ) none Set.univ (m := pairM) (Finset.subset_univ _)) $$ Hq; iintro Hq
  iapply (wp_store 𝒱₀ (c : Thread nD τ) none Set.univ (m := pairM) (r := row1) (Mk := Finset.univ) (Finset.subset_univ _)) $$ Hq; iintro Hq
  rw [stored_pair, show rowsOf (k0_pay8 (rv m ρ c) (rv m ρ (partner c))) (k0_pay9 (rv m ρ c) (ri m ρ c) (rv m ρ (partner c)) (ri m ρ (partner c)))
    = pairpart m ρ c from rfl]
  iapply (wp_load 𝒱₀ (c : Thread nD τ) none Set.univ (m := pairM) (Finset.subset_univ _)) $$ Hq; iintro Hq
  rw [read_pair, wp_ret]; imodintro
  iapply Hk
  isplitl [Hp]; · iexact Hp
  isplitl [Hi]; · iexact Hi
  isplitl [Hq]; · iexact Hq
  isplitl [Hsl]; · iexact Hsl
  isplitl [HzB HzS HzV]
  · isplitl [HzB]; · iexact HzB
    isplitl [HzS] <;> iassumption
  unfold owesAny; iexists _; iexact HO

end Parts

end Cert.KernelIdealProof

end
-- ==== Proof.KernelIdeal.Group.lean ====
/-
# The exchange with the group

The third stretch of the kernel: the pair's rows are stored in the device's own slot and sent into its slot on each other
device of the group; the group's rows come, and the four rows of maxima are loaded.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 11 → ℕ) (c : Dev nD)

theorem sem_vS_off (off : Fin 1 → Nat) (hoff : off = ![(q c).val]) (h) :
    ((cc0_scratch7.slice (Rect.unit (s := S4) off S1.size h)).squeeze S_ squeezes_S1_S_).sem = vS (q c) := by
  subst hoff; exact sem_vS (q c) h

/-- The pair's rows into the device's own slot. -/
theorem store_own (off : Fin 3 → Nat) (hoff : off = ![(q c).val, 0, 0]) (inb : ∀ a, off a + S1x2x512.size a ≤ S4x2x512.size a) {hl hs hm}
    {α : Type} {Q : α → sProp 𝕄} {k : PUnit → Prog (TpuEff nD τ sig (Elt F) Λ₀ .tc) α} :
    iprop(∃ f, slotPts c (q c) f)
      ⊢ iprop((slotPts c (q c) (gath m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load gM (Rect.unit (s := S4x2x512) off S1x2x512.size inb).toLoadRect hl)
                (fun _ => .op (.store gM (Rect.unit (s := S4x2x512) off S1x2x512.size inb) (k0_pay11 (k0_pay10 (pairpart m ρ c))) Finset.univ hs hm) k)) Q) := by
  subst hoff
  iintro ⟨%f, Hs⟩ Hk
  iapply (wp_load_rect 𝒱₀ (c : Thread nD τ) none Set.univ (m := gM) (r := slotR (q c)) (access_slot (q c)).subset) $$ Hs; iintro Hs
  iapply (wp_store 𝒱₀ (c : Thread nD τ) none Set.univ (m := gM) (r := slotR (q c)) (Mk := Finset.univ)
    (by rw [View.setOn_univ]; exact (access_slot (q c)).subset)) $$ Hs; iintro Hs
  iapply Hk
  ihave Hs := (Entails.of_eq (pointsTo_congr (ℓ := (c : Thread nD τ).loc cc0_scratch3) (q := fullShare) fun i hi => stored_slot m ρ c f i hi)) $$ Hs
  iexact Hs

/-- The own slot is there; for each other one, the credit of its receive cell. -/
theorem slots_or_creds :
    iprop(slotPts c (q c) (gath m ρ c) ∗ bigSep Finset.univ fun r : Fin 4 => cred (tallyAt (vCell c r) () (if r = q c then 0 else N)))
      ⊢ (bigSep Finset.univ fun r : Fin 4 => if r = q c then slotPts c r (gath m ρ c) else cred (tallyAt (vCell c r) () (if r = q c then 0 else N)) : sProp 𝕄) := by
  rw [take4 (q c) (fun r : Fin 4 => (cred (tallyAt (vCell c r) () (if r = q c then 0 else N)) : sProp 𝕄)),
    show (bigSep Finset.univ fun r : Fin 4 => if r = q c then slotPts c r (gath m ρ c) else cred (tallyAt (vCell c r) () (if r = q c then 0 else N)) : sProp 𝕄)
      = bigSep Finset.univ fun r : Fin 4 => if r = q c then slotPts c (q c) (gath m ρ c) else cred (tallyAt (vCell c r) () (if r = q c then 0 else N))
      from bigSep_congr fun r _ => by by_cases h : r = q c <;> simp [h],
    ← put4 (q c) (slotPts c (q c) (gath m ρ c))]
  iintro ⟨Hs, -, Hc⟩
  isplitl [Hs] <;> iassumption

set_option maxHeartbeats 8000000 in
/-- The exchange with the group. -/
theorem sound_part3 (v4 : BitVec 32) (Kt : _ → sProp 𝕄) :
    iprop(records m ρ K
        ∗ ((bigSep Finset.univ fun r : Fin 4 => atPos ER (sCell c r) 0 ∅ 0) ∗ bigSep Finset.univ fun r : Fin 4 => atPos ER (vCell c r) 0 ∅ 0)
        ∗ (bigSep Finset.univ fun r : Fin 4 => cred (tallyAt (vCell c r) () (if r = q c then 0 else N)))
        ∗ ((bigSep Finset.univ fun r : Fin 4 => dutyTok ER (vCell (peer c r) (q c)) 0 0) ∗ bigSep Finset.univ fun r : Fin 4 => dutyTok ER (sCell c r) 0 0)
        ∗ (∃ f, slotPts c (q c) f) ∗ wPts c cc0_scratch2 (pairpart m ρ c)
        ∗ (bigSep Finset.univ fun r : Fin 4 => if r = q c then iprop(emp) else iprop(∃ f, slotPts (zpeer c r) (q c) f)) ∗ owesAny c (S0 c)
        ∗ ((wPts c cc0_scratch3 (gath m ρ c) ∗ wPts c cc0_scratch2 (pairpart m ρ c)
            ∗ ((bigSep Finset.univ fun r : Fin 4 => semVal (sCell c r) 0) ∗ bigSep Finset.univ fun r : Fin 4 => semVal (vCell c r) 0) ∗ owesAny c 0)
              -∗ Kt (k0_pay12 (gv m ρ c))))
      ⊢ wp frame (wpE (defs₀ (F := F)) 𝒱₀ (c : Thread nD τ) none) Set.univ
          (k0_part3 (F := F) xM (Memref.isWhole_whole _) oM (Memref.isWhole_whole _) partM (Memref.isWhole_whole _) inM (Memref.isWhole_whole _)
            pairM (Memref.isWhole_whole _) gM (Memref.isWhole_whole _) cc0_scratch4 cc0_scratch5 cc0_scratch6 cc0_scratch7
            c (placeWord c) v4 (k0_pay10 (pairpart m ρ c))) Kt := by
  simp only [k0_part3_eq_skeleton]; unfold k0_part3_skel
  simp -zeta only [semSignalWord, semWaitWord, Prog.lift, Prog.bind_op, Prog.bind_ret, Prog.pure_eq_ret]
  iintro ⟨#HR, ⟨Has, Hav⟩, Hcv, ⟨Htv, Hts⟩, Hown, Hq, Hl, HO, Hk⟩
  ihave Hq := (Entails.of_eq (((pairPts_eq c _).symm.trans (quarters_eq c _)).trans (fin4 _))) $$ Hq
  icases Hq with ⟨Hq0, Hq1, Hq2, Hq3⟩
  ihave Hl := (Entails.of_eq (fin4 _)) $$ Hl
  icases Hl with ⟨Hl0, Hl1, Hl2, Hl3⟩
  ihave Htv := (Entails.of_eq (fin4 _)) $$ Htv
  icases Htv with ⟨Htv0, Htv1, Htv2, Htv3⟩
  ihave Hts := (Entails.of_eq (fin4 _)) $$ Hts
  icases Hts with ⟨Hts0, Hts1, Hts2, Hts3⟩
  ihave Has := (Entails.of_eq (fin4 _)) $$ Has
  icases Has with ⟨Has0, Has1, Has2, Has3⟩
  ihave Hav := (Entails.of_eq (fin4 _)) $$ Hav
  icases Hav with ⟨Hav0, Hav1, Hav2, Hav3⟩
  iapply (store_own m ρ c _ (k0_off1_eq c) _) $$ Hown
  iintro Hown
  iapply (guard_send m ρ K c 0 (cond5_iff c) (fun h => dev7_eq c (k0_dev7_lt c h)) (k0_off3 c) (k0_off3_eq c)
    (sem_sS 0 (sem_inb 0)) (fun h => sem_vS_off c _ (k0_off2_eq c) (k0_off2_inb c h)) (S1' c)) $$ [HO Hq0 Hl0 Htv0 Hts0]
  · isplitr; · iexact HR
    isplitl [Hq0]; · iexact Hq0
    isplitl [Hl0]; · iexact Hl0
    isplitl [Htv0]; · iexact Htv0
    isplitl [Hts0]; · iexact Hts0
    iexact HO
  iintro ⟨Hq0, HO⟩
  iapply (guard_send m ρ K c 1 (cond6_iff c) (fun h => dev8_eq c (k0_dev8_lt c h)) (k0_off5 c) (k0_off5_eq c)
    (sem_sS 1 (sem_inb 1)) (fun h => sem_vS_off c _ (k0_off4_eq c) (k0_off4_inb c h)) (S2 c)) $$ [HO Hq1 Hl1 Htv1 Hts1]
  · isplitr; · iexact HR
    isplitl [Hq1]; · iexact Hq1
    isplitl [Hl1]; · iexact Hl1
    isplitl [Htv1]; · iexact Htv1
    isplitl [Hts1]; · iexact Hts1
    iexact HO
  iintro ⟨Hq1, HO⟩
  iapply (guard_send m ρ K c 2 (cond7_iff c) (fun h => dev9_eq c (k0_dev9_lt c h)) (k0_off7 c) (k0_off7_eq c)
    (sem_sS 2 (sem_inb 2)) (fun h => sem_vS_off c _ (k0_off6_eq c) (k0_off6_inb c h)) (S3 c)) $$ [HO Hq2 Hl2 Htv2 Hts2]
  · isplitr; · iexact HR
    isplitl [Hq2]; · iexact Hq2
    isplitl [Hl2]; · iexact Hl2
    isplitl [Htv2]; · iexact Htv2
    isplitl [Hts2]; · iexact Hts2
    iexact HO
  iintro ⟨Hq2, HO⟩
  iapply (guard_send m ρ K c 3 (cond8_iff c) (fun h => dev10_eq c (k0_dev10_lt c h)) (k0_off9 c) (k0_off9_eq c)
    (sem_sS 3 (sem_inb 3)) (fun h => sem_vS_off c _ (k0_off8_eq c) (k0_off8_inb c h)) (0)) $$ [HO Hq3 Hl3 Htv3 Hts3]
  · isplitr; · iexact HR
    isplitl [Hq3]; · iexact Hq3
    isplitl [Hl3]; · iexact Hl3
    isplitl [Htv3]; · iexact Htv3
    isplitl [Hts3]; · iexact Hts3
    iexact HO
  iintro ⟨Hq3, HO⟩
  ihave Hv := ((slots_or_creds m ρ c).trans (Entails.of_eq (fin4 _))) $$ [Hown Hcv]
  · isplitl [Hown] <;> iassumption
  icases Hv with ⟨Hv0, Hv1, Hv2, Hv3⟩
  iapply (guard_wait m ρ K c 0 (place_ne c 0) (sem_sS 0 (sem_inb 0)) (sem_vS 0 (sem_inb 0))) $$ [HO Hq0 Hv0 Has0 Hav0]
  · isplitr; · iexact HR
    isplitl [Hq0]; · iexact Hq0
    isplitl [Hv0]; · iexact Hv0
    isplitl [Has0]; · iexact Has0
    isplitl [Hav0]; · iexact Hav0
    iexact HO
  iintro ⟨Hq0, Hg0, Hzs0, Hzv0, HO⟩
  iapply (guard_wait m ρ K c 1 (place_ne c 1) (sem_sS 1 (sem_inb 1)) (sem_vS 1 (sem_inb 1))) $$ [HO Hq1 Hv1 Has1 Hav1]
  · isplitr; · iexact HR
    isplitl [Hq1]; · iexact Hq1
    isplitl [Hv1]; · iexact Hv1
    isplitl [Has1]; · iexact Has1
    isplitl [Hav1]; · iexact Hav1
    iexact HO
  iintro ⟨Hq1, Hg1, Hzs1, Hzv1, HO⟩
  iapply (guard_wait m ρ K c 2 (place_ne c 2) (sem_sS 2 (sem_inb 2)) (sem_vS 2 (sem_inb 2))) $$ [HO Hq2 Hv2 Has2 Hav2]
  · isplitr; · iexact HR
    isplitl [Hq2]; · iexact Hq2
    isplitl [Hv2]; · iexact Hv2
    isplitl [Has2]; · iexact Has2
    isplitl [Hav2]; · iexact Hav2
    iexact HO
  iintro ⟨Hq2, Hg2, Hzs2, Hzv2, HO⟩
  iapply (guard_wait m ρ K c 3 (place_ne c 3) (sem_sS 3 (sem_inb 3)) (sem_vS 3 (sem_inb 3))) $$ [HO Hq3 Hv3 Has3 Hav3]
  · isplitr; · iexact HR
    isplitl [Hq3]; · iexact Hq3
    isplitl [Hv3]; · iexact Hv3
    isplitl [Has3]; · iexact Has3
    isplitl [Hav3]; · iexact Hav3
    iexact HO
  iintro ⟨Hq3, Hg3, Hzs3, Hzv3, HO⟩
  ihave Hg := ((Entails.of_eq ((fin4 _).symm.trans (slots_eq c (gath m ρ c)).symm))) $$ [Hg0 Hg1 Hg2 Hg3]
  · isplitl [Hg0]; · iexact Hg0
    isplitl [Hg1]; · iexact Hg1
    isplitl [Hg2] <;> iassumption
  iapply (wp_load 𝒱₀ (c : Thread nD τ) none Set.univ (m := gM) (Finset.subset_univ _)) $$ Hg; iintro Hg
  rw [read_gv, wp_ret]; imodintro
  iapply Hk
  isplitl [Hg]; · iexact Hg
  isplitl [Hq0 Hq1 Hq2 Hq3]
  · rw [← pairPts_eq, quarters_eq, fin4]
    isplitl [Hq0]; · iexact Hq0
    isplitl [Hq1]; · iexact Hq1
    isplitl [Hq2] <;> iassumption
  isplitl [Hzs0 Hzs1 Hzs2 Hzs3 Hzv0 Hzv1 Hzv2 Hzv3]
  · rw [fin4, fin4]
    isplitl [Hzs0 Hzs1 Hzs2 Hzs3]
    · isplitl [Hzs0]; · iexact Hzs0
      isplitl [Hzs1]; · iexact Hzs1
      isplitl [Hzs2] <;> iassumption
    · isplitl [Hzv0]; · iexact Hzv0
      isplitl [Hzv1]; · iexact Hzv1
      isplitl [Hzv2] <;> iassumption
  iexact HO

end Cert.KernelIdealProof

end
-- ==== Proof.KernelIdeal.Whole.lean ====
/-
# The whole kernel body on one device

The three stretches joined, and the two stores of the result; then the body as the pipeline asks for it.
-/
module

public import proofs.«01_k».proof.Proof.KernelIdeal.Group

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
/-- The one point of the grid. -/
def pt : Fin cfg0.N := ⟨0, by rw [cfg0_N]; decide⟩
theorem point_eq (t : Fin cfg0.N) : t = pt := by
  obtain ⟨t, ht⟩ := t; have := cfg0_N; exact Fin.ext (by simp only [pt]; omega)

/-- Before the body: the ghost state and the four scratch buffers, whatever they hold. -/
def Φ₀ (c : Dev nD) : sProp 𝕄 :=
  iprop(start m ρ c ∗ (∃ f, wPts c cc0_scratch0 f) ∗ (∃ f, wPts c cc0_scratch1 f) ∗ (∃ f, wPts c cc0_scratch2 f) ∗ ∃ f, wPts c cc0_scratch3 f)
/-- All eleven counters at zero. -/
def zeros (c : Dev nD) : sProp 𝕄 :=
  iprop((semVal (barCell c) 0 ∗ semVal (pSCell c) 0 ∗ semVal (pVCell c) 0)
    ∗ (bigSep Finset.univ fun r : Fin 4 => semVal (sCell c r) 0) ∗ bigSep Finset.univ fun r : Fin 4 => semVal (vCell c r) 0)
/-- After the body: the scratch buffers, and every counter at zero. -/
def Φ₁ (c : Dev nD) : sProp 𝕄 :=
  iprop(((∃ f, wPts c cc0_scratch0 f) ∗ (∃ f, wPts c cc0_scratch1 f) ∗ (∃ f, wPts c cc0_scratch2 f) ∗ ∃ f, wPts c cc0_scratch3 f) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => out m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A whole buffer owned at given contents. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev heldAt (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body -/

theorem lend_join (c : Dev nD) (f : (cc0_scratch1 : Ref sig .tc).ty.Contents (Elt F)) (g : (cc0_scratch3 : Ref sig .tc).ty.Contents (Elt F)) :
    (iprop(inPts c f ∗ bigSep Finset.univ fun r : Fin 4 => if r = q c then iprop(emp) else slotPts c r g) : sProp 𝕄)
      ⊢ bigSep Finset.univ fun r : Fin 4 => lend (F := F) c r := by
  rw [put4]
  refine bigSep_mono fun r _ => ?_
  unfold lend
  by_cases h : r = q c
  · rw [if_pos h, if_pos h]
    show (inPts c f : sProp 𝕄) ⊢ iprop(∃ f, inPts c f)
    iintro H; iexists f; iexact H
  · rw [if_neg h, if_neg h]
    show (slotPts c r g : sProp 𝕄) ⊢ iprop(∃ f, slotPts c r f)
    iintro H; iexists g; iexact H

/-- What a device lends at the barrier: its landing buffer and the group's slots of its gathering buffer; its own slot
    stays. -/
theorem lend_all (c : Dev nD) :
    iprop((∃ f, wPts c cc0_scratch1 f) ∗ ∃ f, wPts c cc0_scratch3 f)
      ⊢ iprop((bigSep Finset.univ fun r : Fin 4 => lend (F := F) c r) ∗ ∃ f, slotPts c (q c) f) := by
  iintro ⟨⟨%f, Hi⟩, ⟨%g, Hg⟩⟩
  ihave Hi := (Entails.of_eq (inPts_eq c f).symm) $$ Hi
  ihave Hg := (Entails.of_eq ((slots_eq c g).trans (take4 (q c) _))) $$ Hg
  icases Hg with ⟨Hown, Hg⟩
  isplitr [Hown]
  · iapply (lend_join (F := F) c f g)
    isplitl [Hi] <;> iassumption
  · iexists g; iexact Hown

set_option maxHeartbeats 4000000 in
/-- The body on device `c`, in terms of what it owns before and after. -/
theorem sound_body (K : Dev nD × Fin 11 → ℕ) (c : Dev nD) (Kt : PUnit → sProp 𝕄) :
    iprop((ghost m ρ K c ∗ credits c ∗ levAts L lv)
        ∗ ((∃ f, wPts c cc0_scratch0 f) ∗ (∃ f, wPts c cc0_scratch1 f) ∗ (∃ f, wPts c cc0_scratch2 f) ∗ ∃ f, wPts c cc0_scratch3 f)
        ∗ owesAny c (O₀ c) ∗ xPts m ρ c ∗ (∃ f, wPts c cc0_stg1_0 f)
        ∗ ((Φ₁ c ∗ owesAny c 0 ∗ xPts m ρ c ∗ wPts c cc0_stg1_0 (out m ρ c)) -∗ Kt ⟨⟩))
      ⊢ wp frame (wpE (defs₀ (F := F)) 𝒱₀ (c : Thread nD τ) none) Set.univ
          (cc0_body (F := F) xM (Memref.isWhole_whole _) oM (Memref.isWhole_whole _) partM (Memref.isWhole_whole _) inM (Memref.isWhole_whole _)
            pairM (Memref.isWhole_whole _) gM (Memref.isWhole_whole _) cc0_scratch4 cc0_scratch5 cc0_scratch6 cc0_scratch7) Kt := by
  simp only [cc0_body_eq_skeleton]; unfold cc0_body_skel
  rw [wp_bind]
  unfold ghost places payToks credits
  iintro ⟨⟨⟨#HR, ⟨HaB, HapS, HapV, HaS, HaV⟩, HtB, HtpV, HtpS, HtV, HtS⟩, ⟨HcB, HcpV, HcV⟩, #Hlev⟩, ⟨Hs0, Hs1, Hs2, Hs3⟩, HO, Hx, Hout, Hk⟩
  ihave Hl := (lend_all (F := F) c) $$ [Hs1 Hs3]
  · isplitl [Hs1] <;> iassumption
  icases Hl with ⟨Hl, Hown⟩
  iapply (sound_part1 m ρ K c)
  isplitr; · iexact HR
  isplitl [HtB Hl]
  · rw [bigSep_sep']; isplitl [HtB] <;> iassumption
  isplitl [HO]; · iexact HO
  isplitl [Hx]; · iexact Hx
  iintro ⟨HO, Hx⟩
  rw [wp_bind]
  iapply (sound_part2 m ρ K c)
  isplitr; · iexact HR
  isplitr; · iexact Hlev
  isplitl [HaB HapS HapV]
  · isplitl [HaB]; · iexact HaB
    isplitl [HapS] <;> iassumption
  isplitl [HcB HcpV]
  · isplitl [HcB] <;> iassumption
  isplitl [HtpV HtpS]
  · isplitl [HtpV] <;> iassumption
  isplitl [Hs0]; · iexact Hs0
  isplitl [Hs2]; · iexact Hs2
  isplitl [HO]; · iexact HO
  iintro ⟨Hs0, Hs1, Hs2, Hl, Hz1, HO⟩
  rw [wp_bind]
  iapply (sound_part3 m ρ K c)
  isplitr; · iexact HR
  isplitl [HaS HaV]
  · isplitl [HaS] <;> iassumption
  isplitl [HcV]; · iexact HcV
  isplitl [HtV HtS]
  · isplitl [HtV] <;> iassumption
  isplitl [Hown]; · iexact Hown
  isplitl [Hs2]; · iexact Hs2
  isplitl [Hl]; · iexact Hl
  isplitl [HO]; · iexact HO
  iintro ⟨Hs3, Hs2, Hz2, HO⟩
  simp only [Prog.lift, Prog.bind_op, Prog.bind_ret, Prog.pure_eq_ret]
  icases Hout with ⟨%f, Hout⟩
  iapply (wp_load 𝒱₀ (c : Thread nD τ) none Set.univ (m := gM) (Finset.subset_univ _)) $$ Hs3; iintro Hs3
  rw [read_gi]
  iapply (wp_load 𝒱₀ (c : Thread nD τ) none Set.univ (m := oM) (Finset.subset_univ _)) $$ Hout; iintro Hout
  iapply (wp_store 𝒱₀ (c : Thread nD τ) none Set.univ (m := oM) (r := row0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := row1) (Mk := Finset.univ) (Finset.subset_univ _)) $$ Hout; iintro Hout
  rw [stored_out, wp_ret]; imodintro
  iapply Hk
  unfold Φ₁ zeros
  isplitl [Hs0 Hs1 Hs2 Hs3 Hz1 Hz2]
  · isplitr [Hz1 Hz2]
    · isplitl [Hs0]; · iexists _; iexact Hs0
      isplitl [Hs1]; · iexists _; iexact Hs1
      isplitl [Hs2]; · iexists _; iexact Hs2
      iexists _; iexact Hs3
    · isplitl [Hz1] <;> iassumption
  isplitl [HO]; · iexact HO
  isplitl [Hx]; · iexact Hx
  iexact Hout

/-! ## The body as the pipeline asks for it -/

theorem fetch_x (t : Fin cfg0.N) : (cfg0.win (0 : Fin 2)).fetch t = true := by rw [point_eq t]; rfl

set_option maxRecDepth 4000 in
def bodyPre (c : Dev nD) : sProp 𝕄 :=
  iprop(Φ₀ m ρ c ∗ (dats m ρ 0 c).owesAt () pt.castSucc
    ∗ (∃ d, heldAt c cc0_stg0_0 ((dats m ρ 0 c).before (0 : Fin 2) pt d))
    ∗ (∃ d, heldAt c cc0_stg1_0 ((dats m ρ 0 c).before (1 : Fin 2) pt d)))
def bodyPost (c : Dev nD) : sProp 𝕄 :=
  iprop(Φ₁ (F := F) c ∗ (dats m ρ 0 c).owesAt () pt.succ
    ∗ heldAt c cc0_stg0_0 (xstg m ρ c) ∗ heldAt c cc0_stg1_0 (out m ρ c))

set_option maxHeartbeats 4000000 in
set_option maxRecDepth 4000 in
/-- At its one point the body takes the pipeline from its first state to its last. -/
theorem body_obligation (c : Dev nD) : BodyObligation (dats (F := F) m ρ 0 c) (defs₀ (F := F)) 𝒱₀ () Set.univ := fun t => by
  rw [point_eq t]
  rw [bigSep_W0, bigSep_W0]
  simp only [owns_buffer]
  show bodyPre m ρ c ⊢ wp frame (wpE (defs₀ (F := F)) 𝒱₀ c none) Set.univ
    (cc0_body (F := F) xM (Memref.isWhole_whole _) oM (Memref.isWhole_whole _) partM (Memref.isWhole_whole _) inM (Memref.isWhole_whole _)
      pairM (Memref.isWhole_whole _) gM (Memref.isWhole_whole _) cc0_scratch4 cc0_scratch5 cc0_scratch6 cc0_scratch7) (fun _ => bodyPost m ρ c)
  unfold bodyPre Φ₀ start
  iintro ⟨⟨⟨⟨%K, Hg⟩, Hcr, Hlev⟩, Hscr⟩, Ho, ⟨%d0, %g0, %hg0, Hx⟩, ⟨%d1, %g1, %hg1, Hout⟩⟩
  have hx : g0 = xstg m ρ c := by rw [hg0]; unfold Dat.before; rw [if_pos (fetch_x pt)]; rfl
  subst hx
  unfold Dat.owesAt Pipeline.owesWithin
  icases Ho with ⟨%W, %hW, HO⟩
  rw [show (dats m ρ 0 c).owed pt.castSucc = O₀ c from rfl]
  iapply (sound_body m ρ K c fun _ => bodyPost m ρ c)
  isplitl [Hg Hcr Hlev]
  · isplitl [Hg]; · iexact Hg
    isplitl [Hcr] <;> iassumption
  isplitl [Hscr]; · iexact Hscr
  isplitl [HO]; · unfold owesAny; iexists W; iexact HO
  isplitl [Hx]; · iexact Hx
  isplitl [Hout]; · iexists g1; iexact Hout
  unfold owesAny bodyPost Dat.owesAt Pipeline.owesWithin
  iintro ⟨HΦ, ⟨%W', HO⟩, Hx, Hout⟩
  rw [show (dats m ρ 0 c).owed pt.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdealProof

end
-- ==== Proof.KernelIdeal.Deal.lean ====
/-
# Dealing out the ghost state at launch

Every device's eleven cells are made, with four tokens each; the tokens of a cell's duties go to the devices that pay them.
-/
module

public import proofs.«01_k».proof.Proof.KernelIdeal.Whole

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem csem_injective : Function.Injective csem := by decide

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All the cells of the exchange, -/
def theCells : Finset (GSem nD τ sig) := Finset.univ.map ⟨kcell, kcell_injective⟩

/-- and four tokens for each. -/
abbrev tokOf (x : (Dev nD × Fin 11) × Fin 4) : GSem nD τ sig × ℕ × Fin 4 := (kcell x.1, 0, x.2)
theorem tokOf_injective : Function.Injective tokOf := by
  rintro ⟨ck, d⟩ ⟨ck', d'⟩ h
  have h1 : ck = ck' := kcell_injective (congrArg (fun y : GSem nD τ sig × ℕ × Fin 4 => y.1) h)
  have h2 : d = d' := congrArg (fun y : GSem nD τ sig × ℕ × Fin 4 => y.2.2) h
  rw [h1, h2]
def theToks : Finset (GSem nD τ sig × ℕ × Fin 4) := Finset.univ.map ⟨tokOf, tokOf_injective⟩

/-- What the launch puts in: the pipeline's cells and tokens, and the exchange's. -/
def u₀ : UU :=
  (initOf (Pipeline.cells cfgs cellOf_inj) (Pipeline.launchToks cfgs cellOf_inj), initOf theCells theToks)

/-- The tokens of device `c`'s own cells. -/
def toks (c : Dev nD) : sProp 𝕄 := bigSep Finset.univ fun k : Fin 11 => bigSep Finset.univ fun d : Fin 4 => dutyTok ER (kcell (c, k)) 0 d

/-- What device `c` is dealt first: its cells' states and places, and the tokens of its own cells. -/
def G (c : Dev nD) : sProp 𝕄 :=
  iprop((bigSep Finset.univ fun k : Fin 11 => roundState ER (Rd m ρ) (kcell (c, k)) 0)
    ∗ (bigSep Finset.univ fun k : Fin 11 => iprop(atPos ER (kcell (c, k)) 0 ∅ 0 ∗ reached ER (kcell (c, k)) 0)) ∗ toks c)

/-- What it has after the deal. -/
def G' (c : Dev nD) : sProp 𝕄 := iprop(∃ K, ghost m ρ K c)

omit [FloatOps F] in
/-- A sum over the eleven cells: the barrier, the two pair cells, the send cells, the receive cells. -/
theorem fin11 (Φ : Fin 11 → sProp 𝕄) : bigSep Finset.univ Φ
    = iprop(Φ kB ∗ Φ kpS ∗ Φ kpV ∗ (bigSep Finset.univ fun r : Fin 4 => Φ (kS r)) ∗ bigSep Finset.univ fun r : Fin 4 => Φ (kV r)) := by
  rw [bigSep_univ_eq_bigSepL [0, 1, 2, 3, 4, 5, 6, 7, 8, 9, 10] (by decide) (by decide) Φ, fin4, fin4]
  show iprop(Φ 0 ∗ Φ 1 ∗ Φ 2 ∗ Φ 3 ∗ Φ 4 ∗ Φ 5 ∗ Φ 6 ∗ Φ 7 ∗ Φ 8 ∗ Φ 9 ∗ Φ 10)
    = iprop(Φ 0 ∗ Φ 1 ∗ Φ 2 ∗ (Φ 3 ∗ Φ 4 ∗ Φ 5 ∗ Φ 6) ∗ Φ 7 ∗ Φ 8 ∗ Φ 9 ∗ Φ 10)
  have h (A B C : sProp 𝕄) : iprop((A ∗ B) ∗ C) = iprop(A ∗ B ∗ C) :=
    Entails.antisymm (Laws.sep_assoc (PROP := sProp 𝕄)).1 (Laws.sep_assoc (PROP := sProp 𝕄)).2
  rw [h, h, h]

theorem fund_exchange : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 11 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks toks; rw [bigSep_map, bigSep_univ_prod, bigSep_univ_prod]; rfl
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

omit [FloatOps F] in
/-- The kernel's own ten semaphores: all cells but the barrier, -/
theorem ownSems0_eq (c : Dev nD) : (Pipeline.ownSems0 (Ix := Unit) (Name := ℕ) (U := UU) (Lvl := ℕ) (Val := Elt F) (τ := τ) osem c : sProp 𝕄)
    = iprop(semVal (pSCell c) 0 ∗ semVal (pVCell c) 0
      ∗ (bigSep Finset.univ fun r : Fin 4 => semVal (sCell c r) 0) ∗ bigSep Finset.univ fun r : Fin 4 => semVal (vCell c r) 0) := by
  rw [Pipeline.ownSems0_eq_of_list c osem [0, 1, 2, 3, 4, 5, 6, 7, 8, 9] (by decide) (by decide), fin4, fin4]
  have h (A B C : sProp 𝕄) : iprop((A ∗ B) ∗ C) = iprop(A ∗ B ∗ C) :=
    Entails.antisymm (Laws.sep_assoc (PROP := sProp 𝕄)).1 (Laws.sep_assoc (PROP := sProp 𝕄)).2
  rw [h, h, h]; rfl
omit [FloatOps F] in
/-- which is the one that lives beyond the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, fin11]
  iintro ⟨⟨H1, H2, H3, H4⟩, HB⟩
  isplitl [HB]; · iexact HB
  isplitl [H1]; · iexact H1
  isplitl [H2]; · iexact H2
  isplitl [H3]; · iexact H3
  iexact H4

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 11 => semVal (kcell (c, k)) 0) ∗ bigSep Finset.univ fun k : Fin 11 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Who gets which token -/

/-- The devices that talk to each other, as a pairing of (device, place): it is its own inverse. -/
def talk : Dev nD × Fin 4 ≃ Dev nD × Fin 4 where
  toFun x := (peer x.1 x.2, q x.1)
  invFun x := (peer x.1 x.2, q x.1)
  left_inv x := Prod.ext (peer_peer x.1 x.2) (q_peer x.1 x.2)
  right_inv x := Prod.ext (peer_peer x.1 x.2) (q_peer x.1 x.2)
/-- The pairing of the two halves of the mesh. -/
def swap : Dev nD ≃ Dev nD := ⟨partner, partner, partner_partner, partner_partner⟩

omit [FloatOps F] in
theorem bigSep_talk (Φ : Dev nD → Fin 4 → sProp 𝕄) :
    (bigSep Finset.univ fun c : Dev nD => bigSep Finset.univ fun r : Fin 4 => Φ c r)
      = bigSep Finset.univ fun c : Dev nD => bigSep Finset.univ fun r : Fin 4 => Φ (peer c r) (q c) := by
  rw [← bigSep_univ_prod (fun x : Dev nD × Fin 4 => Φ x.1 x.2), bigSep_univ_equiv talk (fun x : Dev nD × Fin 4 => Φ x.1 x.2),
    ← bigSep_univ_prod (fun x : Dev nD × Fin 4 => Φ (peer x.1 x.2) (q x.1))]
  rfl

omit [FloatOps F] in
/-- Of its own cells' tokens a device keeps the ones that name a duty. -/
theorem toks_used (c : Dev nD) : (toks c : sProp 𝕄)
    ⊢ iprop((bigSep Finset.univ fun d : Fin 4 => dutyTok ER (barCell c) 0 d) ∗ dutyTok ER (pSCell c) 0 0 ∗ dutyTok ER (pVCell c) 0 0
      ∗ (bigSep Finset.univ fun r : Fin 4 => dutyTok ER (sCell c r) 0 0) ∗ bigSep Finset.univ fun r : Fin 4 => dutyTok ER (vCell c r) 0 0) := by
  unfold toks
  rw [fin11]
  have h (g : GSem nD τ sig) : (bigSep Finset.univ fun d : Fin 4 => dutyTok ER g 0 d : sProp 𝕄) ⊢ dutyTok ER g 0 0 := bigSep_elim (Finset.mem_univ 0)
  exact BI.sep_mono (Entails.refl _) (BI.sep_mono (h _) (BI.sep_mono (h _) (BI.sep_mono (bigSep_mono fun r _ => h _) (bigSep_mono fun r _ => h _))))

omit [FloatOps F] in
theorem reorder (A B C D E : sProp 𝕄) : iprop(A ∗ B ∗ C ∗ D ∗ E) ⊢ iprop(A ∗ C ∗ B ∗ E ∗ D) := by
  iintro ⟨H1, H2, H3, H4, H5⟩
  isplitl [H1]; · iexact H1
  isplitl [H3]; · iexact H3
  isplitl [H2]; · iexact H2
  isplitl [H5]; · iexact H5
  iexact H4

omit [FloatOps F] in
/-- The tokens go to the devices that pay. -/
theorem toks_around : (bigSep Finset.univ fun c : Dev nD => (toks c : sProp 𝕄)) ⊢ bigSep Finset.univ fun c : Dev nD => payToks c := by
  refine (bigSep_mono fun c _ => toks_used c).trans ?_
  unfold payToks
  rw [bigSep_sep', bigSep_sep', bigSep_sep', bigSep_sep', bigSep_sep', bigSep_sep', bigSep_sep', bigSep_sep',
    bigSep_talk (fun c r => dutyTok ER (barCell c) 0 r), bigSep_talk (fun c r => dutyTok ER (vCell c r) 0 0),
    bigSep_univ_equiv swap (fun c : Dev nD => (dutyTok ER (pVCell c) 0 0 : sProp 𝕄))]
  exact reorder _ _ _ _ _

theorem ghost_intro (K : Dev nD × Fin 11 → ℕ) (c : Dev nD) : iprop(records m ρ K ∗ places c ∗ payToks c) ⊢ G' m ρ c := by
  unfold G' ghost
  iintro H
  iexists K; iexact H

/-- Every device gets its own copy of the records beside its places and tokens. -/
theorem hand_out (K : Dev nD × Fin 11 → ℕ) :
    iprop(records m ρ K ∗ bigSep Finset.univ fun c : Dev nD => iprop(places c ∗ payToks c)) ⊢ bigSep Finset.univ (G' m ρ) := by
  refine (sep_mono_left (BI.bigSep_of_persistent (Finset.univ : Finset (Dev nD)) (records m ρ K))).trans ?_
  rw [← bigSep_sep']
  exact bigSep_mono fun c _ => ghost_intro m ρ K c

omit [FloatOps F] in
theorem places_eq (c : Dev nD) : (bigSep Finset.univ fun k : Fin 11 => (atPos ER (kcell (c, k)) 0 ∅ 0 : sProp 𝕄)) = places c := by
  unfold places; rw [fin11]; rfl

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 11 => iprop(∃ κ : ℕ, cellInv ER (Rd m ρ) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄)),
    bigSep_congr (s := Finset.univ) (fun (c : Dev nD) _ => places_eq (F := F) c)]
  iintro ⟨HI, ⟨Hat, #HR⟩, Htok⟩
  ihave HK := (BI.bigSep_exists_pi Finset.univ (fun (ck : Dev nD × Fin 11) (κ : ℕ) => (cellInv ER (Rd m ρ) κ (kcell ck) : sProp 𝕄))) $$ HI
  icases HK with ⟨%K, #HI⟩
  ihave Htk := (toks_around (F := F)) $$ Htok
  iapply (hand_out m ρ K)
  isplitr
  · unfold records; isplitl; · iexact HI
    iexact HR
  · rw [bigSep_sep']
    isplitl [Hat] <;> iassumption

/-- The deal, for all devices at once. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdealProof

end
-- ==== Proof.KernelIdeal.Launch.lean ====
/-
# The run of the whole program

What the devices owe each other at launch adds up to the credits each starts with; with that, and the body on each
device, every execution ends with each device's result computed, its argument unchanged and every counter at zero.
-/
module

public import Idealize.ShloMosaic.Lib.Pipeline.CollectiveSegs
public import proofs.«01_k».proof.Proof.KernelIdeal.Deal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### What is owed to each cell -/

/-- Two cells are the same just if they are of the same device and the same semaphore. -/
theorem cell_eq_iff (a b : Dev nD) (s t : SemLoc sig) :
    (((a : Thread nD τ), s) : GSem nD τ sig) = ((b : Thread nD τ), t) ↔ a = b ∧ s = t :=
  ⟨fun h => ⟨congrArg (fun g : GSem nD τ sig => g.1.1) h, congrArg Prod.snd h⟩, fun h => by rw [h.1, h.2]⟩

theorem tally_at (a b : Dev nD) (s t : SemLoc sig) (n : ℕ) :
    (tallyAt ((b : Thread nD τ), t) () n : CellTallies nD τ sig Unit) ((a : Thread nD τ), s) () = if a = b ∧ s = t then n else 0 := by
  rw [tallyAt_apply]
  by_cases h : a = b ∧ s = t
  · rw [if_pos ⟨(cell_eq_iff a b s t).mpr h, rfl⟩, if_pos h]
  · rw [if_neg (fun h' => h ((cell_eq_iff a b s t).mp h'.1)), if_neg h]

theorem ob_at (d a : Dev nD) (r : Fin 4) (s : SemLoc sig) :
    ob d r ((a : Thread nD τ), s) () = if r ≠ q d ∧ a = zpeer d r ∧ s = .reg barS then 1 else 0 := by
  unfold ob
  by_cases h : r = q d
  · rw [if_pos h, if_neg (fun h' => h'.1 h)]; rfl
  · rw [if_neg h, tally_at]; simp only [ne_eq, h, not_false_eq_true, true_and]
theorem o2_at (d a : Dev nD) (r : Fin 4) (s : SemLoc sig) :
    o2 d r ((a : Thread nD τ), s) () = (if r ≠ q d ∧ a = zpeer d r ∧ s = .dma (vS (q d)) then 1 else 0) * N := by
  unfold o2
  by_cases h : r = q d
  · rw [if_pos h, if_neg (fun h' => h'.1 h), Nat.zero_mul]; rfl
  · rw [if_neg h, tally_at]; simp only [ne_eq, h, not_false_eq_true, true_and, ite_mul, Nat.one_mul, Nat.zero_mul]

/-- Everything device `d` owes a cell: units of signals, and transfers. -/
theorem owed_at (d a : Dev nD) (s : SemLoc sig) :
    O₀ d ((a : Thread nD τ), s) () =
      ((if a = partner d ∧ s = .reg barS then 1 else 0) + ∑ r : Fin 4, if r ≠ q d ∧ a = zpeer d r ∧ s = .reg barS then 1 else 0)
      + ((if a = partner d ∧ s = .dma pV then 1 else 0) + ∑ r : Fin 4, if r ≠ q d ∧ a = zpeer d r ∧ s = .dma (vS (q d)) then 1 else 0) * N := by
  have hP : (tallyAt (pVCell (partner d)) () N : CellTallies nD τ sig Unit) ((a : Thread nD τ), s) ()
      = (if a = partner d ∧ s = .dma pV then 1 else 0) * N := by
    rw [tally_at]; simp only [ite_mul, Nat.one_mul, Nat.zero_mul]
  show ((((((((((0 + o2 d 3) + o2 d 2) + o2 d 1) + o2 d 0) + tallyAt (pVCell (partner d)) () N) + ob d 3) + ob d 2) + ob d 1) + ob d 0)
    + tallyAt (barCell (partner d)) () 1) ((a : Thread nD τ), s) () = _
  simp only [Pi.add_apply, Finsupp.add_apply]
  rw [hP, tally_at, ob_at, ob_at, ob_at, ob_at, o2_at, o2_at, o2_at, o2_at, Fin.sum_univ_four, Fin.sum_univ_four, Nat.add_mul, Nat.add_mul, Nat.add_mul, Nat.add_mul]
  show (0 + _ + _ + _ + _ + _ + _ + _ + _ + _ + _ : ℕ) = _
  omega

/-- The units owed to a cell by all devices, and the transfers. -/
def unitsTo (a : Dev nD) (s : SemLoc sig) : ℕ :=
  ∑ d : Dev nD, ((if a = partner d ∧ s = .reg barS then 1 else 0) + ∑ r : Fin 4, if r ≠ q d ∧ a = zpeer d r ∧ s = .reg barS then 1 else 0)
def transfersTo (a : Dev nD) (s : SemLoc sig) : ℕ :=
  ∑ d : Dev nD, ((if a = partner d ∧ s = .dma pV then 1 else 0) + ∑ r : Fin 4, if r ≠ q d ∧ a = zpeer d r ∧ s = .dma (vS (q d)) then 1 else 0)

theorem toBar (a : Dev nD) : unitsTo a (.reg barS) = 4 ∧ transfersTo a (.reg barS) = 0 := by revert a; decide
theorem toPV (a : Dev nD) : unitsTo a (.dma pV) = 0 ∧ transfersTo a (.dma pV) = 1 := by revert a; decide
theorem toV (a : Dev nD) (r : Fin 4) : unitsTo a (.dma (vS r)) = 0 ∧ transfersTo a (.dma (vS r)) = if r = q a then 0 else 1 := by
  revert a r; decide

/-- The credit a cell starts with. -/
theorem launch_at (a : Dev nD) (s : SemLoc sig) :
    tallyOn ((a : Thread nD τ), s) (launchCredit (Pipeline.owing O₀) 0 ((a : Thread nD τ), s))
      = (tallyAt ((a : Thread nD τ), s) () (unitsTo a s + transfersTo a s * N) : CellTallies nD τ sig Unit) := by
  unfold tallyAt; refine congrArg _ (Finsupp.ext fun u => ?_); cases u
  rw [Pipeline.launchCredit_owing, Finsupp.single_eq_same, Finset.sum_congr rfl fun d _ => owed_at d a s, Finset.sum_add_distrib, ← Finset.sum_mul]
  rfl

/-- The launch credit of one cell. -/
abbrev launched (a : Dev nD) (s : SemLoc sig) : sProp 𝕄 :=
  cred (tallyOn ((a : Thread nD τ), s) (launchCredit (Pipeline.owing O₀) 0 ((a : Thread nD τ), s)))

omit [FloatOps F] in
theorem launched_bar (c : Dev nD) : (launched c (.reg barS) : sProp 𝕄) = cred (tallyAt (barCell c) () 4) := by
  unfold launched; rw [launch_at, (toBar c).1, (toBar c).2, Nat.zero_mul]
omit [FloatOps F] in
theorem launched_pV (c : Dev nD) : (launched c (.dma pV) : sProp 𝕄) = cred (tallyAt (pVCell c) () N) := by
  unfold launched; rw [launch_at, (toPV c).1, (toPV c).2, Nat.one_mul, Nat.zero_add]
omit [FloatOps F] in
theorem launched_v (c : Dev nD) (r : Fin 4) : (launched c (.dma (vS r)) : sProp 𝕄) = cred (tallyAt (vCell c r) () (if r = q c then 0 else N)) := by
  unfold launched; rw [launch_at, (toV c r).1, (toV c r).2, Nat.zero_add, ite_mul, Nat.one_mul, Nat.zero_mul]

omit [FloatOps F] in
theorem launched_cells (c : Dev nD) : (Pipeline.launchCred O₀ c : sProp 𝕄)
    ⊢ iprop(launched c (.reg barS) ∗ launched c (.dma pS) ∗ launched c (.dma pV)
      ∗ (bigSep Finset.univ fun r : Fin 4 => launched c (.dma (sS r))) ∗ bigSep Finset.univ fun r : Fin 4 => launched c (.dma (vS r))) := by
  have h : (bigSep (Finset.univ.map ⟨csem, csem_injective⟩) fun s => launched c s : sProp 𝕄) = iprop(launched c (.reg barS) ∗ launched c (.dma pS) ∗ launched c (.dma pV)
      ∗ (bigSep Finset.univ fun r : Fin 4 => launched c (.dma (sS r))) ∗ bigSep Finset.univ fun r : Fin 4 => launched c (.dma (vS r))) := by
    rw [bigSep_map, fin11]; rfl
  rw [← h]
  exact bigSep_subset (Finset.subset_univ _)

omit [FloatOps F] in
/-- The credits device `c` starts with. -/
theorem creds (c : Dev nD) : (Pipeline.launchCred O₀ c : sProp 𝕄) ⊢ credits c := by
  unfold credits
  rw [← launched_bar, ← launched_pV, bigSep_congr (s := Finset.univ) (fun (r : Fin 4) _ => (launched_v (F := F) c r).symm)]
  iintro H
  ihave H := (launched_cells (F := F) c) $$ H
  icases H with ⟨HB, -, HV, -, Hv⟩
  isplitl [HB]; · iexact HB
  isplitl [HV] <;> iassumption

/-! ### The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros
  iintro ⟨Hr, ⟨HB, H1, H2⟩, H3, H4⟩
  isplitl [HB]; · iexact HB
  isplitl [H1 H2 H3 H4]
  · isplitl [H1]; · iexact H1
    isplitl [H2]; · iexact H2
    isplitl [H3] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What an array of the kernel holds after the run. -/
def finalA (c : Dev nD) (w : Fin cfg0.W) : Buf (Elt F) ((cfg0.win w).arr.view.loc (c : Thread nD τ)) := (dats m ρ 0 c).arrAt w cfg0.N

set_option maxHeartbeats 4000000 in
set_option maxRecDepth 8000 in
/-- Every execution of the program from zero counters ends, with the arrays at their computed contents and every counter
    at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays after the run -/

/-- The argument is the kernel's input: it holds what it held. -/
theorem finalA_arg (c : Dev nD) : finalA m ρ c (0 : Fin 2) = m ((c : Thread nD τ).loc main_arg0) :=
  (dats (F := F) m ρ 0 c).arrAt_in (0 : Fin 2) rfl _

theorem win0_whole (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem win1_whole (f : (main_v1 : Ref sig .tc).ty.Contents (Elt F)) : (win0_1.blk (0 : Fin 1)).view.read (Elt F) f = f :=
  Memref.read_access_unit_zero (Elt F) main_v1 (funext fun a => by fin_cases a <;> decide) (fun a => by fin_cases a <;> decide) f

/-- A device's staged block is its argument array. -/
theorem xstg_eq (c : Dev nD) : xstg m ρ c = m ((c : Thread nD τ).loc main_arg0) := win0_whole _

/-- The result array holds the kernel's result. -/
theorem finalA_out (c : Dev nD) : finalA m ρ c (1 : Fin 2) = out m ρ c := by
  refine (win1_whole (finalA m ρ c (1 : Fin 2))).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run: on every device the result array ends at `out` and the argument unchanged; every counter ends at zero. -/
theorem run : θ_run defs (onTc (τ := τ) (main (F := F))) ⟨m, fun _ => 0, ρ⟩ (fun r =>
    (∀ c : Dev nD, r.2.mem ((c.tc : Thread nD τ).loc main_v1) = out m ρ c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (finalA_out m ρ c), (h.1 c (0 : Fin 2)).trans (finalA_arg m ρ c)⟩, h.2⟩)
    (run_main m ρ)

end Cert.KernelIdealProof

end
-- ==== Proof.Reference.Run.lean ====
/-
# The run of the reference

The reference is a straight line of host operations on one device.  This module states what its result is as a
function of its argument (`refOut`: the row of column maxima above the row of their positions) and proves that every
execution ends with exactly that, the argument unchanged.
-/
module

public import proofs.«01_k».proof.Proof.Gen.ReferenceIdeal
public import Idealize.ShloMosaic.Lib.StableHlo.Run

@[expose] public section

noncomputable section

namespace Cert.ReferenceProof

open Cert.ReferenceIdeal Cert.ReferenceIdeal.Gen
open Idealize.ShloMosaic Idealize.ShloMosaic.TcCoe Idealize.ShloMosaic.StableHlo Idealize.SL.Sem

variable {F : FTy → Type} [FloatOps F]

/-- Each column's maximum. -/
def refMax (x : FVec F S8192x512 .bf16) : FVec F S512 .bf16 :=
  Host.reduce FloatOps.maximumf x (constant S_ .bf16 0xFF80#16) reducesTo_S8192x512_S512_d0 h_S_

/-- Each column's pair of its maximum and the row number of the first one, as the fold of the column leaves it. -/
def refPair (x : FVec F S8192x512 .bf16) : S512.Idx → F .bf16 × BitVec 32 :=
  Host.argReduce reducer_argmax_bf16_i32 x (iotaInDim S8192x512 32 0) (constant S_ .bf16 0xFF80#16) (constantI S_ 32 0#32)
    reducesTo_S8192x512_S512_d0 h_S_

/-- The row numbers alone. -/
def refArg (x : FVec F S8192x512 .bf16) : IVec S512 32 := fun j => (refPair x j).2

/-- The reference's result: the maxima, and below them the row numbers as floats. -/
def refOut (x : FVec F S8192x512 .bf16) : FVec F S2x512 .f32 :=
  concatenate S2x512 0
    [⟨S1x512, broadcastInDim S1x512 ![1] bcast_S512_S1x512_1 (extf .f32 (refMax x) bitsLt_bf16_f32)⟩,
     ⟨S1x512, broadcastInDim S1x512 ![1] bcast_S512_S1x512_1 (sitofp .f32 (refArg x))⟩]
    concatenates_S1x512_S1x512_S2x512_d0

/-- The reference's operations, in order. -/
abbrev ops : List (HloOp τ sig (Elt F)) :=
  [ TRef.nullary main_call0.v0 (iotaInDim S8192x512 32 0),
    TRef.nullary main_call0.cst (constant S_ .bf16 0xFF80#16),
    TRef.nullary main_call0.c (constantI S_ 32 0#32),
    TRef.quaternary (.of main_arg0) main_call0.v0 main_call0.cst main_call0.c main_call0.v1_0
      (fun x y u v j => (Host.argReduce reducer_argmax_bf16_i32 x y u v reducesTo_S8192x512_S512_d0 h_S_ j).1),
    TRef.quaternary (.of main_arg0) main_call0.v0 main_call0.cst main_call0.c main_call0.v1_1
      (fun x y u v j => (Host.argReduce reducer_argmax_bf16_i32 x y u v reducesTo_S8192x512_S512_d0 h_S_ j).2),
    unary main_v0 main_v1 (sitofp .f32 : (⟨S512, .i32⟩ : BufTy).Contents (Elt F) → (⟨S512, .f32⟩ : BufTy).Contents (Elt F)),
    nullary main_cst (constant S_ .bf16 0xFF80#16),
    binary main_arg0 main_cst main_v2 (fun x v => Host.reduce FloatOps.maximumf x v reducesTo_S8192x512_S512_d0 h_S_),
    unary main_v2 main_v3 (extf .f32 · bitsLt_bf16_f32),
    unary main_v3 main_v4 (broadcastInDim S1x512 ![1] bcast_S512_S1x512_1),
    unary main_v1 main_v5 (broadcastInDim S1x512 ![1] bcast_S512_S1x512_1),
    binary main_v4 main_v5 main_v6 (fun a b => concatenate S2x512 0 [⟨S1x512, a⟩, ⟨S1x512, b⟩] concatenates_S1x512_S1x512_S2x512_d0) ]

/-- The program is that line of operations. -/
theorem main_eq (c : Dev nD) : main (F := F) c = seq ops := rfl

/-- After them the result buffer holds `refOut` of the argument, -/
theorem out_eq (V : Valuation τ sig (Elt F)) : after ops V (main_v6 : DevRef τ sig) = refOut (V (main_arg0 : DevRef τ sig)) := by
  after_results
  rfl

/-- and the argument is not written. -/
theorem arg0_eq (V : Valuation τ sig (Elt F)) : after ops V (main_arg0 : DevRef τ sig) = V (main_arg0 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..,
   unary_bufs_sub .., nullary_bufs_sub .., binary_bufs_sub .., unary_bufs_sub .., unary_bufs_sub .., unary_bufs_sub ..,
   binary_bufs_sub ..⟩

/-- Every execution of the reference ends with `refOut` of the argument in the result buffer and the argument as it
was. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v6) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v6).trans (out_eq _), (h c main_arg0).trans (arg0_eq _)⟩)
    (run_seq no_scoped_refs no_scoped_sems defs main (fun _ => ops) main_eq (fun _ => ops_sub) m ρ)

end Cert.ReferenceProof

end
-- ==== Proof.Maths.Best.lean ====
/-
# The greatest value of a set of rows and where it is first reached

Everything the kernel and the reference compute about one column is said here with one relation, `Best x S v k`: among
the rows of `S`, `v` is the greatest entry of the column `x` and `k` the number of the first row that has it.  The
relation has at most one answer, and answers for parts of the rows combine to an answer for their union: for two parts
by one comparison, for several by taking the greatest value and then the least number among the parts that have it.
-/
module

public import Mathlib.Data.EReal.Basic
public import Mathlib.Order.ConditionallyCompleteLattice.Finset
public import Mathlib.Data.Finset.Lattice.Fold

@[expose] public section

noncomputable section

namespace Cert.Maths

variable {n : Nat}

/-- A row number as an extended real. -/
def num (i : Fin n) : EReal := (((i.val : ℕ) : ℝ) : EReal)

theorem num_le {i j : Fin n} : num i ≤ num j ↔ i.val ≤ j.val := by
  unfold num; rw [EReal.coe_le_coe_iff, Nat.cast_le]

/-- `v` is the greatest entry of `x` among the rows of `S`, and `k` the number of the first row of `S` that has it. -/
structure Best (x : Fin n → EReal) (S : Set (Fin n)) (v k : EReal) : Prop where
  le : ∀ i ∈ S, x i ≤ v
  hit : ∃ i ∈ S, x i = v ∧ k = num i
  first : ∀ i ∈ S, x i = v → k ≤ num i

variable {x : Fin n → EReal} {S T : Set (Fin n)} {v w k l : EReal}

/-- There is at most one greatest value, and one first row. -/
theorem Best.unique (h : Best x S v k) (h' : Best x S w l) : v = w ∧ k = l := by
  obtain ⟨i, hi, hiv, rfl⟩ := h.hit
  obtain ⟨j, hj, hjw, rfl⟩ := h'.hit
  have e : v = w := le_antisymm (hiv ▸ h'.le i hi) (hjw ▸ h.le j hj)
  exact ⟨e, le_antisymm (h.first j hj (hjw.trans e.symm)) (h'.first i hi (hiv.trans e))⟩

/-- Over all rows the greatest entry is the supremum of the entries. -/
theorem Best.eq_sup (h : Best x Set.univ v k) : Finset.univ.sup x = v := by
  obtain ⟨i, -, hi, -⟩ := h.hit
  exact le_antisymm (Finset.sup_le fun i _ => h.le i (Set.mem_univ i)) (hi ▸ Finset.le_sup (Finset.mem_univ i))

/-- A part that has the greatest value of all parts, and whose first row comes before the others', answers for the
union. -/
theorem Best.of_parts {ι : Type} {P : ι → Set (Fin n)} {u p : ι → EReal} (h : ∀ r, Best x (P r) (u r) (p r)) {M K : EReal}
    (hM : ∀ r, u r ≤ M) (hK : ∃ r, u r = M ∧ p r = K) (hF : ∀ r, u r = M → K ≤ p r) :
    Best x (⋃ r, P r) M K where
  le i hi := by
    obtain ⟨r, hr⟩ := Set.mem_iUnion.mp hi
    exact ((h r).le i hr).trans (hM r)
  hit := by
    obtain ⟨r, hu, hp⟩ := hK
    obtain ⟨i, hi, hx, hn⟩ := (h r).hit
    exact ⟨i, Set.mem_iUnion.mpr ⟨r, hi⟩, hx.trans hu, hp ▸ hn⟩
  first i hi hx := by
    obtain ⟨r, hr⟩ := Set.mem_iUnion.mp hi
    have e : u r = M := le_antisymm (hM r) (hx ▸ (h r).le i hr)
    exact (hF r e).trans ((h r).first i hr (hx.trans e.symm))

/-- Two parts: the greater value with its number, and for equal values the lesser number. -/
theorem Best.pair (h : Best x S v k) (h' : Best x T w l) :
    Best x (S ∪ T) (max v w) (if v = w then min k l else if w < v then k else l) := by
  rw [Set.union_eq_iUnion]
  refine Best.of_parts (u := fun b => cond b v w) (p := fun b => cond b k l) (fun b => by cases b <;> assumption) ?_ ?_ ?_
  · intro b; cases b
    · exact le_max_right _ _
    · exact le_max_left _ _
  · rcases lt_trichotomy v w with hlt | rfl | hgt
    · exact ⟨false, (max_eq_right hlt.le).symm, by rw [if_neg hlt.ne, if_neg hlt.not_gt]; rfl⟩
    · rw [if_pos rfl, max_self]
      rcases le_total k l with hkl | hkl
      · exact ⟨true, rfl, (min_eq_left hkl).symm⟩
      · exact ⟨false, rfl, (min_eq_right hkl).symm⟩
    · exact ⟨true, (max_eq_left hgt.le).symm, by rw [if_neg hgt.ne', if_pos hgt]; rfl⟩
  · intro b hb
    rcases lt_trichotomy v w with hlt | rfl | hgt
    · rw [if_neg hlt.ne, if_neg hlt.not_gt]
      cases b
      · exact le_rfl
      · rw [max_eq_right hlt.le] at hb; exact absurd hb hlt.ne
    · rw [if_pos rfl]; cases b
      · exact min_le_right _ _
      · exact min_le_left _ _
    · rw [if_neg hgt.ne', if_pos hgt]
      cases b
      · rw [max_eq_left hgt.le] at hb; exact absurd hb hgt.ne
      · exact le_rfl

/-- Several parts: the greatest value, and the least number among the parts that have it, where the other parts put up
a number beyond every row's. -/
theorem Best.group {m : Nat} [NeZero m] {P : Fin m → Set (Fin n)} {u p : Fin m → EReal} (h : ∀ r, Best x (P r) (u r) (p r))
    {B : EReal} (hB : ∀ i : Fin n, num i ≤ B) :
    Best x (⋃ r, P r) (Finset.univ.sup u) (Finset.univ.inf fun r => if u r = Finset.univ.sup u then p r else B) := by
  have hpB (r : Fin m) : p r ≤ B := by obtain ⟨i, -, -, e⟩ := (h r).hit; exact e ▸ hB i
  refine Best.of_parts h (fun r => Finset.le_sup (Finset.mem_univ r)) ?_ ?_
  · obtain ⟨r₀, -, hr₀⟩ := Finset.exists_mem_eq_sup Finset.univ Finset.univ_nonempty u
    obtain ⟨r₁, -, hr₁⟩ := Finset.exists_mem_eq_inf Finset.univ Finset.univ_nonempty
      (fun r => if u r = Finset.univ.sup u then p r else B)
    by_cases e : u r₁ = Finset.univ.sup u
    · exact ⟨r₁, e, by rw [hr₁, if_pos e]⟩
    · refine ⟨r₀, hr₀.symm, le_antisymm ?_ ?_⟩
      · rw [hr₁, if_neg e]; exact hpB r₀
      · refine (Finset.inf_le (Finset.mem_univ r₀)).trans ?_
        simp only [hr₀.symm, if_true, le_refl]
  · intro r hr
    refine (Finset.inf_le (Finset.mem_univ r)).trans ?_
    simp only [hr, if_true, le_refl]

end Cert.Maths

end
-- ==== Proof.KernelIdeal.Value.lean ====
/-
# What the kernel computes over the extended reals

On every device the two rows of the kernel's result answer `Best` over all rows of the whole array: a device's own two
rows answer over its block, a pair's rows over the two blocks, and the four gathered pairs cover all eight blocks.
-/
module

public import proofs.«01_k».proof.Proof.KernelIdeal.Contents
public import proofs.«01_k».proof.Proof.Maths.Best
public import Idealize.ShloMosaic.PureOps.Ideal.Laws
public import Idealize.ShloMosaic.PureOps.Reduce
public import Idealize.ShloMosaic.Lib.Layout
public import Idealize.ShloMosaic.Lib.ValueLayout

@[expose] public section

noncomputable section

namespace Cert.KernelIdealProof

open Cert.KernelIdeal Cert.KernelIdeal.Gen
open Idealize.ShloMosaic Idealize.ShloMosaic.TcCoe Cert.Maths

/-! ## One block -/

theorem f32_neg_inf : (FloatOps.ofBits .f32 0xFF800000#32 : Ideal .f32) = (⊥ : EReal) := by
  show Ideal.ofBits .f32 0xFF800000#32 = ⊥
  simp [Ideal.ofBits, Ideal.ieee]
theorem f32_inf : (FloatOps.ofBits .f32 0x7F800000#32 : Ideal .f32) = (⊤ : EReal) := by
  show Ideal.ofBits .f32 0x7F800000#32 = ⊤
  simp [Ideal.ofBits, Ideal.ieee]

/-- A vector of the columns as one row. -/
theorem cast_row {α : Type} (v : S512.Idx → α) (h : S512.ShapeCasts S1x512) (j : Fin 512) :
    shapeCast S1x512 v h (ix2 (0 : Fin 1) j) = v (ix1 j) := by
  refine shapeCast_apply v h _ _ ?_
  rw [Shape.rowMajor_val_two, Shape.rowMajor_val_one]
  show j.val = 0 * 512 + j.val
  omega

/-- The entries of a block's column. -/
theorem lift_block (y : S1024x512.Idx → EReal) (j : Fin 512) :
    y ∘ reduces_S1024x512_S512.lift (ix1 j) = fun k : Fin 1024 => y (ix2 k j) := by
  funext k
  refine congrArg y (funext fun a => Fin.ext ?_)
  match a with
  | ⟨0, _⟩ => rfl
  | ⟨1, _⟩ => rfl

theorem pay3_eq (y : Vec Ideal S1024x512 .bf16) : k0_pay3 y = y := by
  unfold k0_pay3; dsimp only; rw [shapeCast_self]; rfl

/-- A block's row of maxima holds each column's greatest entry. -/
theorem own_max (y : Vec Ideal S1024x512 .bf16) (j : Fin 512) :
    k0_pay4 y (ix2 (0 : Fin 1) j) = Finset.univ.sup fun k : Fin 1024 => (y (ix2 k j) : EReal) := by
  unfold k0_pay4
  dsimp only
  rw [cast_row, pay3_eq]
  refine (Ideal.multiReduction_maximumf_single _ _ reduces_S1024x512_S512 _ _ (ix1 j)).trans ?_
  rw [f32_neg_inf]
  exact congrArg (Finset.fold max ⊥ · Finset.univ) (lift_block y j)

theorem drop_block (i : S1024x512.Idx) (j : Fin 512) :
    reduces_S1024x512_S512.drop i = (ix1 j : S512.Idx) ↔ (i 1).val = j.val := by
  have e : (reduces_S1024x512_S512.drop i 0).val = (i 1).val :=
    Shape.Reduces.drop_apply_val_of_eq reduces_S1024x512_S512 i 0 1
  constructor
  · intro h; rw [← e, h]; rfl
  · intro h
    funext b
    match b with
    | ⟨0, _⟩ => exact Fin.ext (e.trans h)

/-- The arg-max of a column of a block: the number of the first row whose entry no other exceeds. -/
theorem own_arg (y : S1024x512.Idx → EReal) (j : Fin 512) :
    ∃ k : Fin 1024, Ideal.reduceIndex .argMax 0 reduces_S1024x512_S512 y (ix1 j) = BitVec.ofNat 32 k.val
      ∧ (∀ k' : Fin 1024, y (ix2 k' j) ≤ y (ix2 k j)) ∧ ∀ k' : Fin 1024, y (ix2 k' j) = y (ix2 k j) → k.val ≤ k'.val := by
  classical
  unfold Ideal.reduceIndex
  dsimp only
  simp only [if_true, not_lt]
  generalize hE : (Finset.univ.filter fun i : S1024x512.Idx => reduces_S1024x512_S512.drop i = ix1 j).filter
    (fun i => ∀ i' ∈ Finset.univ.filter (fun i : S1024x512.Idx => reduces_S1024x512_S512.drop i = ix1 j), y i' ≤ y i) = E
  have memE (i : S1024x512.Idx) : i ∈ E ↔ (i 1).val = j.val ∧ ∀ k' : Fin 1024, y (ix2 k' j) ≤ y i := by
    rw [← hE]
    simp only [Finset.mem_filter, Finset.mem_univ, true_and, drop_block]
    refine and_congr_right fun hi => ⟨fun h k' => h _ rfl, fun h i' hi' => ?_⟩
    have : i' = (ix2 (i' 0) j : S1024x512.Idx) := by
      funext a
      match a with
      | ⟨0, _⟩ => rfl
      | ⟨1, _⟩ => exact Fin.ext hi'
    rw [this]; exact h (i' 0)
  obtain ⟨k₀, -, hk₀⟩ := Finset.exists_max_image (Finset.univ : Finset (Fin 1024)) (fun k => y (ix2 k j)) ⟨⟨0, by decide⟩, Finset.mem_univ _⟩
  have hk₀E : (ix2 k₀ j : S1024x512.Idx) ∈ E := (memE _).mpr ⟨rfl, fun k' => hk₀ k' (Finset.mem_univ _)⟩
  obtain ⟨n, hn⟩ := Finset.min_of_mem (Finset.mem_image_of_mem (fun i : S1024x512.Idx => (i 0).val) hk₀E)
  obtain ⟨i, hi, hin⟩ := Finset.mem_image.mp (Finset.mem_of_min hn)
  have hi' : i = (ix2 (i 0) j : S1024x512.Idx) := by
    funext a
    match a with
    | ⟨0, _⟩ => rfl
    | ⟨1, _⟩ => exact Fin.ext ((memE i).mp hi).1
  refine ⟨i 0, ?_, ?_, ?_⟩
  · rw [hn, ← hin]; rfl
  · intro k'; rw [← hi']; exact ((memE i).mp hi).2 k'
  · intro k' e
    rw [← hi'] at e
    have hk' : (ix2 k' j : S1024x512.Idx) ∈ E := (memE _).mpr ⟨rfl, fun k => e ▸ ((memE i).mp hi).2 k⟩
    have := Finset.min_le_of_eq (Finset.mem_image_of_mem (fun i : S1024x512.Idx => (i 0).val) hk') hn
    rw [← hin] at this
    exact this

/-- The first row of a device's block, as the kernel computes it. -/
theorem offset_eq (c : Dev nD) :
    Scalar.muli (Scalar.remsi (Scalar.divsi (Dev.word c) 1#32) 8#32) 1024#32 = BitVec.ofNat 32 (c.val * 1024) := by
  revert c; decide

theorem word_as_number {b : BitVec 32} (h : b.toNat < 2 ^ 31) : (((b.toInt : ℤ) : ℝ) : EReal) = (((b.toNat : ℕ) : ℝ) : EReal) := by
  rw [BitVec.toInt_eq_toNat_of_lt (by omega), Int.cast_natCast]

/-- A block's two rows: the greatest entry, and its first row counted in the whole array. -/
theorem own_rows (c : Dev nD) (y : Vec Ideal S1024x512 .bf16) (j : Fin 512) :
    ∃ k : Fin 1024, k0_pay4 y (ix2 (0 : Fin 1) j) = y (ix2 k j)
      ∧ k0_pay5 c y (ix2 (0 : Fin 1) j) = (((c.val * 1024 + k.val : ℕ) : ℝ) : EReal)
      ∧ (∀ k' : Fin 1024, (y (ix2 k' j) : EReal) ≤ y (ix2 k j)) ∧ ∀ k' : Fin 1024, y (ix2 k' j) = y (ix2 k j) → k.val ≤ k'.val := by
  obtain ⟨k, hk, hmax, hfirst⟩ := own_arg y j
  refine ⟨k, ?_, ?_, hmax, hfirst⟩
  · rw [own_max]
    exact le_antisymm (Finset.sup_le fun i _ => hmax i)
      (Finset.le_sup (f := fun k : Fin 1024 => (y (ix2 k j) : EReal)) (Finset.mem_univ k))
  unfold k0_pay5
  rw [offset_eq]
  have hk3 : Ideal.reduceIndex .argMax 0 reduces_S1024x512_S512 (k0_pay3 y) (ix1 j) = BitVec.ofNat 32 k.val := by
    rw [pay3_eq]; exact hk
  have e : addi (shapeCast S1x512 (reduceIndex .argMax 0 S512 (k0_pay3 y) reduces_S1024x512_S512) shapeCasts_S512_S1x512)
      (broadcast S1x512 (BitVec.ofNat 32 (c.val * 1024))) (ix2 (0 : Fin 1) j) = BitVec.ofNat 32 (c.val * 1024 + k.val) := by
    show shapeCast S1x512 _ _ (ix2 (0 : Fin 1) j) + BitVec.ofNat 32 (c.val * 1024) = _
    rw [cast_row]
    show Ideal.reduceIndex .argMax 0 reduces_S1024x512_S512 (k0_pay3 y) (ix1 j) + _ = _
    rw [hk3, ← BitVec.ofNat_add, Nat.add_comm]
  have hlt : c.val * 1024 + k.val < 2 ^ 31 := by
    have h1 : c.val < 8 := c.isLt
    have h2 := k.isLt
    omega
  have hn : (BitVec.ofNat 32 (c.val * 1024 + k.val)).toNat = c.val * 1024 + k.val := by
    rw [BitVec.toNat_ofNat, Nat.mod_eq_of_lt (by omega)]
  show ((((addi _ _ (ix2 (0 : Fin 1) j) : BitVec 32).toInt : ℤ) : ℝ) : EReal) = _
  rw [e, word_as_number (by rw [hn]; exact hlt), hn]

/-! ## The blocks in the whole array -/

variable (m : (ℓ : Loc nD τ sig) → Buf (Elt Ideal) ℓ) (ρ : Dev nD → PrngReg)

/-- The rows of device `c`'s block. -/
def rows (c : Dev nD) : Set (Fin 8192) := {i | i.val / 1024 = c.val}

/-- Row `k` of device `c`'s block, in the whole array. -/
def rowAt (c : Dev nD) (k : Fin 1024) : Fin 8192 :=
  ⟨c.val * 1024 + k.val, by have h1 : c.val < 8 := c.isLt; have h2 := k.isLt; omega⟩

theorem rowAt_mem (c : Dev nD) (k : Fin 1024) : rowAt c k ∈ rows c := by
  show (c.val * 1024 + k.val) / 1024 = c.val
  have := k.isLt
  omega
theorem eq_rowAt {c : Dev nD} {i : Fin 8192} (h : i ∈ rows c) : ∃ k, i = rowAt c k := by
  have h' : i.val / 1024 = c.val := h
  exact ⟨⟨i.val % 1024, Nat.mod_lt _ (by decide)⟩, Fin.ext (show i.val = c.val * 1024 + i.val % 1024 by omega)⟩

/-- The two selections that choose between two positions. -/
theorem choose_eq (v w k l : EReal) :
    Scalar.select (Ideal.cmp .oeq v w) (min k l) (Scalar.select (Ideal.cmp .ogt v w) k l)
      = if v = w then min k l else if w < v then k else l := by
  by_cases h1 : v = w
  · simp [Scalar.select, Ideal.cmp, h1]
  · by_cases h2 : w < v <;> simp [Scalar.select, Ideal.cmp, h1, h2]

/-- A pair's row of maxima, -/
theorem pay8_eq (v w : FVec Ideal S1x512 .f32) (i : S1x512.Idx) : k0_pay8 v w i = max (v i : EReal) (w i) := by
  unfold k0_pay8
  rw [shapeCast_self]; rfl

/-- and its row of positions. -/
theorem pay9_eq (v k w l : FVec Ideal S1x512 .f32) (i : S1x512.Idx) :
    k0_pay9 v k w l i = if (v i : EReal) = w i then min (k i : EReal) (l i) else if (w i : EReal) < v i then k i else l i := by
  unfold k0_pay9
  rw [shapeCast_self]
  exact choose_eq _ _ _ _

section Columns
variable {x : Fin 512 → Fin 8192 → EReal}
  (hx : ∀ (c : Dev nD) (k : Fin 1024) (j : Fin 512), (xstg m ρ c (ix2 k j) : EReal) = x j (rowAt c k))
include hx

/-- A device's own two rows answer over its block. -/
theorem own_best (c : Dev nD) (j : Fin 512) :
    Best (x j) (rows c) (rv m ρ c (ix2 (0 : Fin 1) j)) (ri m ρ c (ix2 (0 : Fin 1) j)) := by
  obtain ⟨k, hm, hk, hmax, hfirst⟩ := own_rows c (xstg m ρ c) j
  have hv : rv m ρ c (ix2 (0 : Fin 1) j) = x j (rowAt c k) := by
    unfold rv k0_pay6
    rw [shapeCast_self, hm, hx]
  have hi : ri m ρ c (ix2 (0 : Fin 1) j) = num (rowAt c k) := by
    unfold ri k0_pay7
    rw [shapeCast_self, hk]; rfl
  rw [hv, hi]
  refine ⟨fun i hi => ?_, ⟨_, rowAt_mem c k, rfl, rfl⟩, fun i hi e => ?_⟩
  · obtain ⟨k', rfl⟩ := eq_rowAt hi
    rw [← hx, ← hx]; exact hmax k'
  · obtain ⟨k', rfl⟩ := eq_rowAt hi
    rw [← hx, ← hx] at e
    exact num_le.mpr (Nat.add_le_add_left (hfirst k' e) _)

/-- A pair's two rows answer over the two blocks. -/
theorem pair_best (c : Dev nD) (j : Fin 512) :
    Best (x j) (rows c ∪ rows (partner c)) (pv m ρ c (ix2 (0 : Fin 1) j)) (pi m ρ c (ix2 (0 : Fin 1) j)) := by
  have h := (own_best m ρ hx c j).pair (own_best m ρ hx (partner c) j)
  have hv : pv m ρ c (ix2 (0 : Fin 1) j) = max (rv m ρ c (ix2 (0 : Fin 1) j) : EReal) (rv m ρ (partner c) (ix2 (0 : Fin 1) j)) := by
    unfold pv
    rw [pay8_eq]
  have hi : pi m ρ c (ix2 (0 : Fin 1) j)
      = if (rv m ρ c (ix2 (0 : Fin 1) j) : EReal) = rv m ρ (partner c) (ix2 (0 : Fin 1) j)
        then min (ri m ρ c (ix2 (0 : Fin 1) j) : EReal) (ri m ρ (partner c) (ix2 (0 : Fin 1) j))
        else if (rv m ρ (partner c) (ix2 (0 : Fin 1) j) : EReal) < rv m ρ c (ix2 (0 : Fin 1) j)
          then ri m ρ c (ix2 (0 : Fin 1) j) else ri m ρ (partner c) (ix2 (0 : Fin 1) j) := by
    unfold pi
    rw [pay9_eq]
  rw [hv, hi]; exact h

end Columns

/-! ## The four gathered pairs -/

/-- The gathered values and the gathered positions as arrays of four rows. -/
theorem cast_rows (v : FVec Ideal S4x1x512 .f32) (r : Fin 4) (j : Fin 512) :
    shapeCast S4x512 v shapeCasts_S4x1x512_S4x512 (ix2 r j) = v (ix3 r (0 : Fin 1) j) := by
  refine shapeCast_apply v _ _ _ ?_
  rw [Shape.rowMajor_val_two, Shape.rowMajor_val_three]
  show (r.val * 1 + 0) * 512 + j.val = r.val * 512 + j.val
  omega

theorem lift_rows (y : S4x512.Idx → EReal) (j : Fin 512) :
    y ∘ reduces_S4x512_S512.lift (ix1 j) = fun r : Fin 4 => y (ix2 r j) := by
  funext k
  refine congrArg y (funext fun a => Fin.ext ?_)
  match a with
  | ⟨0, _⟩ => rfl
  | ⟨1, _⟩ => rfl

/-- The row of the greatest of four values. -/
theorem pay1_eq (y : FVec Ideal S4x512 .f32) (j : Fin 512) :
    k0_pay1 y (ix2 (0 : Fin 1) j) = Finset.univ.sup fun r : Fin 4 => (y (ix2 r j) : EReal) := by
  unfold k0_pay1
  dsimp only
  rw [cast_row]
  refine (Ideal.multiReduction_maximumf_single _ _ reduces_S4x512_S512 _ _ (ix1 j)).trans ?_
  rw [f32_neg_inf]
  exact congrArg (Finset.fold max ⊥ · Finset.univ) (lift_rows y j)

/-- The least of a column of four, by the reduction with minimum. -/
theorem min_rows (y : FVec Ideal S4x512 .f32) (j : Fin 512) (hφ hacc) :
    multiReduction .minimumf [0] S512 y 0x7F800000#32 reduces_S4x512_S512 hφ hacc (ix1 j)
      = Finset.univ.inf fun r : Fin 4 => (y (ix2 r j) : EReal) := by
  refine (multiReduction_minimumf_eq_fold y _ reduces_S4x512_S512 hφ hacc (ix1 j)).trans ?_
  refine (reduces_S4x512_S512.fold_filter_drop_single _ _ y (ix1 j)).trans ?_
  rw [f32_inf]
  exact congrArg (Finset.fold min ⊤ · Finset.univ) (lift_rows y j)

/-- The number that stands for a group without the greatest value. -/
def far : EReal := FloatOps.ofBits (F := Ideal) .f32 0x4E6E6B28#32

/-- Every row number is below it. -/
theorem num_le_far (i : Fin 8192) : num i ≤ far := by
  have e : far = ((1000000000 : ℝ) : EReal) := by
    show Ideal.ofBits .f32 0x4E6E6B28#32 = _
    simp [Ideal.ofBits, Ideal.ieee, -EReal.coe_mul]
    norm_num
  rw [e]
  unfold num
  rw [EReal.coe_le_coe_iff]
  have h : i.val ≤ 1000000000 := (i.isLt.trans (by decide)).le
  exact_mod_cast h

theorem select_eq (v w k : EReal) : Scalar.select (Ideal.cmp .oeq v w) k far = if v = w then k else far := by
  by_cases h : v = w <;> simp [Scalar.select, Ideal.cmp, h]

/-- The row of the least position among those of the greatest value. -/
theorem pay2_eq (y : FVec Ideal S4x512 .f32) (v : FVec Ideal S4x1x512 .f32) (j : Fin 512) :
    k0_pay2 y v (ix2 (0 : Fin 1) j)
      = Finset.univ.inf fun r : Fin 4 => if (y (ix2 r j) : EReal) = Finset.univ.sup fun r : Fin 4 => (y (ix2 r j) : EReal)
          then (v (ix3 r (0 : Fin 1) j) : EReal) else far := by
  unfold k0_pay2
  dsimp only
  rw [cast_row]
  refine (min_rows _ j _ _).trans ?_
  refine congrArg _ (funext fun r => ?_)
  refine (select_eq (y (ix2 r j)) (broadcastTo S4x512 (k0_pay1 y) broadcasts_S1x512_S4x512 (ix2 r j))
    (shapeCast S4x512 v shapeCasts_S4x1x512_S4x512 (ix2 r j))).trans ?_
  have hb : broadcastTo S4x512 (k0_pay1 y) broadcasts_S1x512_S4x512 (ix2 r j) = k0_pay1 y (ix2 (0 : Fin 1) j) :=
    ValueIdx.broadcastTo_1b_ab_apply (k0_pay1 y) broadcasts_S1x512_S4x512 r j
  rw [hb, pay1_eq, cast_rows]

/-- Each block is in one of the four pairs a device gathers. -/
theorem pairs_cover (c : Dev nD) (b : Nat) (hb : b < 8) : ∃ r : Fin 4, b = (zpeer c r).val ∨ b = (partner (zpeer c r)).val := by
  have : ∀ (c : Dev nD) (b : Fin 8), ∃ r : Fin 4, b.val = (zpeer c r).val ∨ b.val = (partner (zpeer c r)).val := by decide
  exact this c ⟨b, hb⟩

/-- The result at an index of its upper row and of its lower. -/
theorem rowsOf_upper (a b : FVec Ideal S1x512 .f32) (j : Fin 512) : rowsOf a b (ix2 (0 : Fin 2) j) = a (ix2 (0 : Fin 1) j) :=
  if_pos rfl
theorem rowsOf_lower (a b : FVec Ideal S1x512 .f32) (j : Fin 512) : rowsOf a b (ix2 (1 : Fin 2) j) = b (ix2 (0 : Fin 1) j) :=
  if_neg (show ¬ (1 = 0) by decide)

section Columns
variable {x : Fin 512 → Fin 8192 → EReal}
  (hx : ∀ (c : Dev nD) (k : Fin 1024) (j : Fin 512), (xstg m ρ c (ix2 k j) : EReal) = x j (rowAt c k))
include hx

/-- The two rows of every device's result answer over all rows. -/
theorem out_best (c : Dev nD) (j : Fin 512) :
    Best (x j) Set.univ (out m ρ c (ix2 (0 : Fin 2) j)) (out m ρ c (ix2 (1 : Fin 2) j)) := by
  have h := Best.group (fun r : Fin 4 => pair_best m ρ hx (zpeer c r) j) num_le_far
  have hall : (⋃ r : Fin 4, (rows (zpeer c r) ∪ rows (partner (zpeer c r)))) = Set.univ := by
    refine Set.eq_univ_of_forall fun i => Set.mem_iUnion.mpr ?_
    exact pairs_cover c (i.val / 1024) (by have := i.isLt; omega)
  rw [hall] at h
  have hrow (r : Fin 4) : k0_pay12 (gv m ρ c) (ix2 r j) = pv m ρ (zpeer c r) (ix2 (0 : Fin 1) j) := by
    unfold k0_pay12
    exact cast_rows _ r j
  have h0 : out m ρ c (ix2 (0 : Fin 2) j) = Finset.univ.sup fun r : Fin 4 => (pv m ρ (zpeer c r) (ix2 (0 : Fin 1) j) : EReal) := by
    unfold out
    rw [rowsOf_upper, pay1_eq]
    exact congrArg _ (funext hrow)
  have h1 : out m ρ c (ix2 (1 : Fin 2) j) = Finset.univ.inf fun r : Fin 4 =>
      if (pv m ρ (zpeer c r) (ix2 (0 : Fin 1) j) : EReal) = Finset.univ.sup fun r : Fin 4 => (pv m ρ (zpeer c r) (ix2 (0 : Fin 1) j) : EReal)
      then (pi m ρ (zpeer c r) (ix2 (0 : Fin 1) j) : EReal) else far := by
    unfold out
    rw [rowsOf_lower, pay2_eq]
    simp only [hrow]
    rfl
  rw [h0, h1]
  exact h

end Columns

end Cert.KernelIdealProof

end
-- ==== Proof.Reference.Fold.lean ====
/-
# The fold of one column of the reference

The reference folds each column's pairs (entry, row number) with a comparison that keeps the greater entry and, of equal
entries, the lesser row number.  Over the extended reals this fold ends with the column's greatest entry and the first
row that has it.
-/
module

public import proofs.«01_k».proof.Proof.Reference.Run
public import Mathlib.Data.EReal.Basic
public import Idealize.ShloMosaic.PureOps.Ideal.Laws
public import Idealize.ShloMosaic.PureOps.Reduce
public import Idealize.ShloMosaic.Lib.Pointwise.Index
public import Idealize.ShloMosaic.Lib.Pointwise.SelectCore

@[expose] public section

noncomputable section

namespace Cert.ReferenceProof

open Cert.ReferenceIdeal Cert.ReferenceIdeal.Gen
open Idealize.ShloMosaic

/-- The comparison of two pairs: the greater entry wins, and of equal entries the lesser number. -/
theorem reducer_eq (a b : EReal × BitVec 32) :
    reducer_argmax_bf16_i32 (F := Ideal) a b
      = if b.1 < a.1 then a else if a.1 = b.1 then (b.1, if a.2.slt b.2 then a.2 else b.2) else b := by
  obtain ⟨v, p⟩ := a
  obtain ⟨w, q⟩ := b
  unfold reducer_argmax_bf16_i32
  simp only [Ideal.cmpf_def, Ideal.cmp, IntOp.ori, IntOp.andi, IntOp.cmpi, Scalar.select]
  by_cases h1 : w < v
  · simp only [h1, if_true, decide_true, ne_eq, not_true_eq_false, decide_false, BitVec.ofBool_true, BitVec.ofBool_false]
    by_cases h2 : v = w
    · exact absurd h1 (h2 ▸ lt_irrefl _)
    · simp [h2]
  · by_cases h2 : v = w
    · subst h2
      by_cases h3 : p.slt q <;> simp [h3]
    · simp [h1, h2]

theorem slt_iff {p q : BitVec 32} (hp : p.toNat < 2 ^ 31) (hq : q.toNat < 2 ^ 31) : p.slt q = true ↔ p.toNat < q.toNat := by
  rw [BitVec.slt_iff_toInt_lt, BitVec.toInt_eq_toNat_of_lt (by omega), BitVec.toInt_eq_toNat_of_lt (by omega)]
  omega

/-- What the fold holds after the positions `seen`: their greatest entry and the first row that has it; or the pair it
started from, where no entry is greater than minus infinity. -/
structure Seen {ι : Type} (val : ι → EReal) (row : ι → Nat) (seen : Set ι) (r : EReal × BitVec 32) : Prop where
  le : ∀ i ∈ seen, val i ≤ r.1
  hit : r = (⊥, 0#32) ∨ ∃ i ∈ seen, val i = r.1 ∧ r.2 = BitVec.ofNat 32 (row i)
  first : ∀ i ∈ seen, val i = r.1 → r.2.toNat ≤ row i
  lt : r.2.toNat < 2 ^ 31

section Fold
variable {ι : Type} {val : ι → EReal} {row : ι → Nat} {seen : Set ι} {r : EReal × BitVec 32}

theorem seen_start : Seen val row ∅ (⊥, 0#32) where
  le _ h := absurd h (Set.notMem_empty _)
  hit := .inl rfl
  first _ h := absurd h (Set.notMem_empty _)
  lt := by decide

theorem Seen.step (h : Seen val row seen r) (i : ι) (hi : row i < 2 ^ 31) :
    Seen val row (insert i seen) (reducer_argmax_bf16_i32 (F := Ideal) r (val i, BitVec.ofNat 32 (row i))) := by
  have hn : (BitVec.ofNat 32 (row i)).toNat = row i := by rw [BitVec.toNat_ofNat]; omega
  rw [reducer_eq]
  dsimp only
  by_cases h1 : val i < r.1
  · rw [if_pos h1]
    refine ⟨?_, h.hit.imp id (fun ⟨k, hk, e⟩ => ⟨k, Set.mem_insert_of_mem _ hk, e⟩), ?_, h.lt⟩
    · rintro k (rfl | hk)
      · exact h1.le
      · exact h.le k hk
    · rintro k (rfl | hk) e
      · exact absurd e h1.ne
      · exact h.first k hk e
  · rw [if_neg h1]
    by_cases h2 : r.1 = val i
    · rw [if_pos h2]
      by_cases h3 : r.2.slt (BitVec.ofNat 32 (row i)) = true
      · rw [if_pos h3]
        rw [slt_iff h.lt (by rw [hn]; exact hi), hn] at h3
        refine ⟨?_, ?_, ?_, h.lt⟩
        · rintro k (rfl | hk)
          · exact le_rfl
          · exact h2 ▸ h.le k hk
        · rcases h.hit with e | ⟨k, hk, e, e'⟩
          · exact .inl (by rw [← h2]; exact e)
          · exact .inr ⟨k, Set.mem_insert_of_mem _ hk, e.trans h2, e'⟩
        · rintro k (rfl | hk) e
          · exact h3.le
          · exact h.first k hk (e.trans h2.symm)
      · rw [if_neg h3]
        rw [slt_iff h.lt (by rw [hn]; exact hi), hn] at h3
        refine ⟨?_, .inr ⟨i, Set.mem_insert _ _, rfl, rfl⟩, ?_, by rw [hn]; exact hi⟩
        · rintro k (rfl | hk)
          · exact le_rfl
          · exact h2 ▸ h.le k hk
        · rintro k (rfl | hk) e
          · exact hn.le
          · exact (hn.trans_le (not_lt.mp h3)).trans (h.first k hk (e.trans h2.symm))
    · rw [if_neg h2]
      have h4 : r.1 < val i := lt_of_le_of_ne (not_lt.mp h1) h2
      refine ⟨?_, .inr ⟨i, Set.mem_insert _ _, rfl, rfl⟩, ?_, by rw [hn]; exact hi⟩
      · rintro k (rfl | hk)
        · exact le_rfl
        · exact (h.le k hk).trans h4.le
      · rintro k (rfl | hk) e
        · exact hn.le
        · exact absurd (e.symm.trans_le (h.le k hk)) (not_le.mpr h4)

/-- The fold over a list of positions has seen them all. -/
theorem Seen.foldl (L : List ι) (hL : ∀ i ∈ L, row i < 2 ^ 31) : ∀ {seen : Set ι} {r : EReal × BitVec 32}, Seen val row seen r →
    Seen val row (seen ∪ {i | i ∈ L})
      (L.foldl (fun r i => reducer_argmax_bf16_i32 (F := Ideal) r (val i, BitVec.ofNat 32 (row i))) r) := by
  induction L with
  | nil => intro seen r h; simpa using h
  | cons i L ih =>
    intro seen r h
    have := ih (fun k hk => hL k (List.mem_cons_of_mem _ hk)) (h.step i (hL i List.mem_cons_self))
    rw [show seen ∪ {k | k ∈ i :: L} = insert i seen ∪ {k | k ∈ L} by ext k; simp; tauto]
    exact this

/-- A whole reduction of this kind has seen, at result index `j`, the source indices that reduce to `j`. -/
theorem seen_reduce {s t u : Shape} {axes : List (Fin s.rank)} (x : FVec Ideal s .bf16) (row : s.Idx → Nat) (hrow : ∀ i, row i < 2 ^ 31)
    (ix : u.Idx → Ideal .bf16) (iy : u.Idx → BitVec 32) (h : s.ReducesTo axes t) (hu : 0 < u.numel)
    (hx : ix (Shape.Idx.first hu) = (⊥ : EReal)) (hy : iy (Shape.Idx.first hu) = 0#32) (j : t.Idx) :
    Seen x row {i | h.drop i = j}
      (Host.argReduce (F := Ideal) reducer_argmax_bf16_i32 x (fun i => BitVec.ofNat 32 (row i)) ix iy h hu j) := by
  rw [Ideal.argReduce_eq_reduce2]
  unfold Host.reduce2
  rw [hx, hy, Shape.foldl_filter_rowMajor_eq_foldl h.drop (reducer_argmax_bf16_i32 (F := Ideal)) (⊥, 0#32)
    (fun i => (x i, BitVec.ofNat 32 (row i))) j]
  have := Seen.foldl (val := x) (row := row) (((List.finRange s.numel).map s.rowMajor.symm).filter fun i => h.drop i = j)
    (fun i _ => hrow i) seen_start
  have hs : (∅ : Set s.Idx) ∪ {i | i ∈ ((List.finRange s.numel).map s.rowMajor.symm).filter fun i => h.drop i = j} = {i | h.drop i = j} := by
    ext i
    simp only [Set.empty_union, Set.mem_setOf_eq, List.mem_filter, List.mem_map, List.mem_finRange, true_and, decide_eq_true_eq,
      and_iff_right_iff_imp]
    exact fun _ => ⟨s.rowMajor i, Equiv.symm_apply_apply _ _⟩
  rw [hs] at this
  exact this
end Fold

end Cert.ReferenceProof

end
-- ==== Proof.Reference.Value.lean ====
/-
# What the reference computes over the extended reals

The two rows of the reference's result are, of each column, the greatest entry and the number of the first row that has
it: the answers `Best` asks for, over all rows.
-/
module

public import proofs.«01_k».proof.Proof.Reference.Fold
public import proofs.«01_k».proof.Proof.Maths.Best
public import Idealize.ShloMosaic.PureOps.Ideal.Laws
public import Idealize.ShloMosaic.PureOps.Reduce
public import Idealize.ShloMosaic.Lib.Pointwise.Index
public import Idealize.ShloMosaic.Lib.Pointwise.SelectCore
public import Idealize.ShloMosaic.Lib.Pipeline.Value

@[expose] public section

noncomputable section

namespace Cert.ReferenceProof

open Cert.ReferenceIdeal Cert.ReferenceIdeal.Gen
open Idealize.ShloMosaic Cert.Maths

/-! ## The two rows of the result -/

/-- Column `j` of the array. -/
def col (x : FVec Ideal S8192x512 .bf16) (j : Fin 512) : Fin 8192 → EReal := fun i => x (ix2 i j)

theorem drop_iff (i : S8192x512.Idx) (j : Fin 512) :
    reducesTo_S8192x512_S512_d0.drop i = (ix1 j : S512.Idx) ↔ (i 1).val = j.val := by
  have e : (reducesTo_S8192x512_S512_d0.drop i 0).val = (i 1).val :=
    Shape.ReducesTo.drop_apply_val_of_eq reducesTo_S8192x512_S512_d0 i 0 1
  constructor
  · intro h; rw [← e, h]; rfl
  · intro h
    funext b
    match b with
    | ⟨0, _⟩ => exact Fin.ext (e.trans h)

theorem bf16_neg_inf : (FloatOps.ofBits .bf16 0xFF80#16 : Ideal .bf16) = (⊥ : EReal) := by
  show Ideal.ofBits .bf16 0xFF80#16 = ⊥
  simp [Ideal.ofBits, Ideal.ieee]

theorem reduces_col : S8192x512.Reduces [0] S512 := by decide

/-- The row of maxima holds each column's greatest entry. -/
theorem refMax_eq (x : FVec Ideal S8192x512 .bf16) (j : Fin 512) : refMax x (ix1 j) = Finset.univ.sup (col x j) := by
  unfold refMax
  rw [Host.reduce_eq_fold_single (FloatOps.maximumf (F := Ideal) (φ := .bf16)) x _ reducesTo_S8192x512_S512_d0 reduces_col h_S_ (ix1 j)]
  have hl : x ∘ reduces_col.lift (ix1 j) = col x j := by
    funext k
    refine congrArg x (funext fun a => Fin.ext ?_)
    match a with
    | ⟨0, _⟩ => rfl
    | ⟨1, _⟩ => rfl
  rw [hl]
  show Finset.univ.fold max (FloatOps.ofBits .bf16 0xFF80#16 : Ideal .bf16) (col x j) = _
  rw [bf16_neg_inf]; rfl

/-- The reference's fold has seen the entries of the column. -/
theorem seen_ref (x : FVec Ideal S8192x512 .bf16) (j : Fin 512) :
    Seen x (fun i : S8192x512.Idx => (i 0).val) {i | reducesTo_S8192x512_S512_d0.drop i = (ix1 j : S512.Idx)} (refPair x (ix1 j)) := by
  unfold refPair
  exact seen_reduce x (fun i : S8192x512.Idx => (i 0).val) (fun i => (show (i 0).val < 8192 from (i 0).isLt).trans (by decide))
    (constant S_ .bf16 0xFF80#16) (constantI S_ 32 0#32) reducesTo_S8192x512_S512_d0 h_S_ bf16_neg_inf rfl (ix1 j)

theorem word_as_number {b : BitVec 32} (h : b.toNat < 2 ^ 31) : (((b.toInt : ℤ) : ℝ) : EReal) = (((b.toNat : ℕ) : ℝ) : EReal) := by
  rw [BitVec.toInt_eq_toNat_of_lt (by omega), Int.cast_natCast]

/-- A pair that has seen column `j`'s entries is the greatest of them and the first row that has it. -/
theorem best_of_seen (x : S8192x512.Idx → EReal) (j : Fin 512) (r : EReal × BitVec 32)
    (hseen : Seen x (fun i : S8192x512.Idx => (i 0).val) {i | reducesTo_S8192x512_S512_d0.drop i = (ix1 j : S512.Idx)} r) :
    Best (fun i : Fin 8192 => x (ix2 i j)) Set.univ r.1 (((r.2.toNat : ℕ) : ℝ) : EReal) := by
  obtain ⟨v, b⟩ := r
  have at_row (k : Fin 8192) : reducesTo_S8192x512_S512_d0.drop (ix2 k j : S8192x512.Idx) = (ix1 j : S512.Idx) :=
    (drop_iff _ j).mpr rfl
  have hle (k : Fin 8192) : x (ix2 k j) ≤ v := hseen.le _ (at_row k)
  have hfirst (k : Fin 8192) (e : x (ix2 k j) = v) : b.toNat ≤ k.val := hseen.first _ (at_row k) e
  have hhit : ∃ k : Fin 8192, x (ix2 k j) = v ∧ b.toNat = k.val := by
    rcases hseen.hit with e | ⟨i, hi, e, e'⟩
    · have e1 : v = ⊥ := congrArg Prod.fst e
      have e2 : b = 0#32 := congrArg Prod.snd e
      refine ⟨0, ?_, by rw [e2]; rfl⟩
      have := hle 0
      rw [e1] at this ⊢; exact le_bot_iff.mp this
    · have e2 : b = BitVec.ofNat 32 (i 0).val := e'
      have hi0 : (i 0).val < 8192 := (i 0).isLt
      refine ⟨i 0, ?_, by rw [e2, BitVec.toNat_ofNat, Nat.mod_eq_of_lt (hi0.trans (by decide))]⟩
      have e1 : x i = v := e
      have hi1 : (i 1).val = j.val := (drop_iff i j).mp hi
      rw [← e1]
      refine congrArg x (funext fun a => ?_)
      match a with
      | ⟨0, _⟩ => rfl
      | ⟨1, _⟩ => exact Fin.ext hi1.symm
  obtain ⟨k, hk, hkn⟩ := hhit
  refine ⟨fun i _ => hle i, ⟨k, Set.mem_univ k, hk, ?_⟩, fun i _ e => ?_⟩
  · unfold num; rw [hkn]
  · rw [hkn]
    have hki : k.val ≤ i.val := hkn ▸ hfirst i e
    exact num_le.mpr hki

/-- So do a row of maxima and the row numbers of such pairs. -/
theorem best_of_pairs (x : S8192x512.Idx → EReal) (j : Fin 512) (f : S512.Idx → EReal × BitVec 32) (M : S512.Idx → EReal)
    (A : S512.Idx → BitVec 32) (hM : M (ix1 j) = Finset.univ.sup fun i : Fin 8192 => x (ix2 i j)) (hA : A = fun j => (f j).2)
    (hseen : Seen x (fun i : S8192x512.Idx => (i 0).val) {i | reducesTo_S8192x512_S512_d0.drop i = (ix1 j : S512.Idx)} (f (ix1 j))) :
    Best (fun i : Fin 8192 => x (ix2 i j)) Set.univ (M (ix1 j)) (((A (ix1 j)).toInt : ℝ) : EReal) := by
  subst hA
  have hb := best_of_seen x j _ hseen
  rw [hM, hb.eq_sup]
  show Best _ _ _ ((((f (ix1 j)).2.toInt : ℤ) : ℝ) : EReal)
  rw [word_as_number hseen.lt]
  exact hb

theorem refArg_eq (x : FVec Ideal S8192x512 .bf16) : refArg x = fun j => (refPair x j).2 := rfl

/-- Over all rows, the reference's maximum and row number are the greatest entry and the first row that has it. -/
theorem ref_best (x : FVec Ideal S8192x512 .bf16) (j : Fin 512) :
    Best (col x j) Set.univ (refMax x (ix1 j)) (((refArg x (ix1 j)).toInt : ℝ) : EReal) :=
  best_of_pairs x j (refPair x) (refMax x) (refArg x) (refMax_eq x j) (refArg_eq x) (seen_ref x j)

/-- Two one-row arrays, one above the other, at an index of the upper row and of the lower. -/
theorem rows_upper (a b : FVec Ideal S1x512 .f32) (h : Shape.Concatenates [S1x512, S1x512] S2x512 0) (j : Fin 512) :
    concatenate S2x512 0 [⟨S1x512, a⟩, ⟨S1x512, b⟩] h (ix2 (0 : Fin 2) j) = a (ix2 (0 : Fin 1) j) :=
  concatenate_pair_apply_left 0 a b h _ rfl _ fun c => by match c with | ⟨0, _⟩ => rfl | ⟨1, _⟩ => rfl
theorem rows_lower (a b : FVec Ideal S1x512 .f32) (h : Shape.Concatenates [S1x512, S1x512] S2x512 0) (j : Fin 512) :
    concatenate S2x512 0 [⟨S1x512, a⟩, ⟨S1x512, b⟩] h (ix2 (1 : Fin 2) j) = b (ix2 (0 : Fin 1) j) :=
  concatenate_pair_apply_right 0 a b h _ rfl rfl _ (fun c hc => by match c with | ⟨0, _⟩ => exact absurd rfl hc | ⟨1, _⟩ => rfl) rfl

/-- A vector as the one row of an array. -/
theorem as_row (v : FVec Ideal S512 .f32) (j : Fin 512) :
    broadcastInDim S1x512 ![1] bcast_S512_S1x512_1 v (ix2 (0 : Fin 1) j) = v (ix1 j) :=
  broadcastInDim_apply _ _ v _ (ix1 j) fun a => by
    match a with
    | ⟨0, _⟩ => exact (if_neg (show ¬ (512 = 1) by decide)).symm

/-- The upper row of the result is the row of maxima, -/
theorem refOut_row0 (x : FVec Ideal S8192x512 .bf16) (j : Fin 512) : refOut x (ix2 (0 : Fin 2) j) = refMax x (ix1 j) := by
  unfold refOut
  rw [rows_upper, as_row]
  generalize refMax x = y
  rfl

/-- and the lower row the row numbers, as extended reals. -/
theorem refOut_row1 (x : FVec Ideal S8192x512 .bf16) (j : Fin 512) :
    refOut x (ix2 (1 : Fin 2) j) = (((refArg x (ix1 j)).toInt : ℝ) : EReal) := by
  unfold refOut
  rw [rows_lower, as_row]
  generalize refArg x = y
  rfl

/-- The two rows of the reference's result answer for all rows of each column. -/
theorem refOut_best (x : FVec Ideal S8192x512 .bf16) (j : Fin 512) :
    Best (col x j) Set.univ (refOut x (ix2 (0 : Fin 2) j)) (refOut x (ix2 (1 : Fin 2) j)) := by
  rw [refOut_row0, refOut_row1]; exact ref_best x j

end Cert.ReferenceProof

end
-- ==== Proof.Equation.lean ====
/-
# The kernel's result is the reference's

Where every device holds its block of the reference's array, both programs' results answer for all rows of each column;
there is one such answer, so the results are equal.
-/
module

public import proofs.«01_k».proof.Proof.KernelIdeal.Value
public import proofs.«01_k».proof.Proof.KernelIdeal.Launch
public import proofs.«01_k».proof.Proof.Reference.Value
public import Idealize.ShloMosaic.Lib.Layout

@[expose] public section

noncomputable section

namespace Cert.Equation

open Idealize.ShloMosaic Idealize.ShloMosaic.TcCoe Cert.Maths
open Cert.KernelIdeal Cert.KernelIdealProof Cert.ReferenceProof

/-- Row `k` of device `c`'s block is row `c · 1024 + k` of the whole array. -/
theorem block_row (x : FVec Ideal Cert.ReferenceIdeal.S8192x512 .bf16) (h : Layout.Tiles ⟨2, ![1024, 512]⟩ ⟨2, ![8192, 512]⟩ 0 8)
    (c : Dev nD) (k : Fin 1024) (j : Fin 512) :
    Layout.block ⟨2, ![1024, 512]⟩ ⟨2, ![8192, 512]⟩ 0 8 c x h (ix2 k j) = col x j (rowAt c k) := by
  rw [Layout.block_apply]
  refine congrArg x (funext fun a => Fin.ext ?_)
  match a with
  | ⟨0, _⟩ => exact (Layout.idx_rows_val h c (ix2 k j)).1
  | ⟨1, _⟩ => exact (Layout.idx_rows_val h c (ix2 k j)).2

/-- Every device's result is the reference's result of the whole array. -/
theorem out_eq_refOut (m : (ℓ : Loc nD τ sig) → Buf (Elt Ideal) ℓ) (ρ : Dev nD → PrngReg)
    (x : FVec Ideal Cert.ReferenceIdeal.S8192x512 .bf16) (h : Layout.Tiles ⟨2, ![1024, 512]⟩ ⟨2, ![8192, 512]⟩ 0 8)
    (hm : ∀ c : Dev nD, m ((c : Thread nD τ).loc main_arg0) = Layout.block ⟨2, ![1024, 512]⟩ ⟨2, ![8192, 512]⟩ 0 8 c x h)
    (c : Dev nD) : out m ρ c = refOut x := by
  have hx (c : Dev nD) (k : Fin 1024) (j : Fin 512) : (xstg m ρ c (ix2 k j) : EReal) = col x j (rowAt c k) := by
    rw [xstg_eq, hm]; exact block_row x h c k j
  have hu (j : Fin 512) := (out_best m ρ hx c j).unique (refOut_best x j)
  funext i
  rw [show i = ix2 (i 0) (i 1) from eq_ix2 i]
  have two : ∀ r : Fin 2, r = 0 ∨ r = 1 := by decide
  rcases two (i 0) with e | e <;> rw [e]
  · exact (hu (i 1)).1
  · exact (hu (i 1)).2

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie_Kernel
public import proofs.«01_k».proof.Proof.Gen.Pre_no_tie_ReferenceIdeal
public import proofs.«01_k».proof.Proof.Kernel.Launch
public import proofs.«01_k».proof.Proof.KernelIdeal.Launch
public import proofs.«01_k».proof.Proof.Reference.Run
public import proofs.«01_k».proof.Proof.Equation
public import Idealize.ShloMosaic.Adequacy
public import Idealize.ShloMosaic.Init

@[expose] public section

noncomputable section

namespace Cert.Proof

open Idealize.ShloMosaic Idealize.SL.Sem

/-- The kernel runs on the chip's floats, leaves its argument as it was and ends with every counter at zero. -/
theorem frame_kernel : Cert.quiescent_Kernel := fun m ρ _ =>
  (θ_run Cert.Kernel.defs _ _).mono (fun _ h => ⟨fun c => (h.1 c).2, h.2⟩) (Cert.KernelProof.run (F := Bits) m ρ)

/-- The same from the blocks that have no tie. -/
theorem frame_kernel_no_tie : Cert.quiescent_Kernel_pre_no_tie_Kernel := fun m ρ _ => frame_kernel m ρ trivial

/-- The kernel runs on the extended reals, leaves its argument as it was and ends with every counter at zero. -/
theorem frame_ideal : Cert.quiescent_KernelIdeal := fun m ρ _ =>
  (θ_run Cert.KernelIdeal.defs _ _).mono (fun _ h => ⟨fun c => (h.1 c).2, h.2⟩) (Cert.KernelIdealProof.run (F := Ideal) m ρ)

/-- The reference runs on the extended reals, leaves its argument as it was and ends with every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceProof.run (F := Ideal) m ρ)

/-- The same from the arrays that have no tie. -/
theorem frame_reference_no_tie : Cert.quiescent_ReferenceIdeal_pre_no_tie_ReferenceIdeal := fun m ρ _ => frame_reference m ρ trivial

/-- Where every device holds its block of the reference's array, both run and every device's result is the reference's. -/
theorem equation : Cert.algebraic_KernelIdeal_ReferenceIdeal := by
  intro m ρ m' ρ' _ hagree
  refine ⟨Cert.ReferenceProof.refOut (F := Ideal) (m' (((0 : Dev Cert.ReferenceIdeal.nD).tc : Thread Cert.ReferenceIdeal.nD Cert.ReferenceIdeal.τ).loc
    Cert.ReferenceIdeal.main_arg0)), ?_, ?_⟩
  · exact (θ_run Cert.KernelIdeal.defs _ _).mono
      (fun _ h c => ⟨(h.1 c).1.trans (Cert.Equation.out_eq_refOut m ρ _ _ hagree c), (h.1 c).2⟩)
      (Cert.KernelIdealProof.run (F := Ideal) m ρ)
  · exact (θ_run Cert.ReferenceIdeal.defs _ _).mono (fun _ h => h 0) (Cert.ReferenceProof.run (F := Ideal) m' ρ')

theorem claim : Cert.Claim := ⟨Cert.Kernel.Gen.facts, Cert.KernelIdeal.Gen.facts, Cert.ReferenceIdeal.Gen.facts, Cert.Pre_no_tie_Kernel.Gen.facts, Cert.Pre_no_tie_ReferenceIdeal.Gen.facts,
  frame_kernel, frame_kernel_no_tie, frame_ideal, frame_reference, frame_reference_no_tie, trivial, equation⟩

end Cert.Proof

end
